-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v76) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S_ : Shape := ⟨0, ![]⟩
abbrev S512x1 : Shape := ⟨2, ![512, 1]⟩
abbrev S512 : Shape := ⟨1, ![512]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x32 : S_.BroadcastsInDim S256x32 (![] : Fin 0 → Fin S256x32.rank)
  slices_S512x2_S512x1_0_0 : S512x2.Slices ![0, 0] S512x1
  shapeCasts_S512x1_S512 : S512x1.ShapeCasts S512
  slices_S512x2_S512x1_0_1 : S512x2.Slices ![0, 1] S512x1

variable [Facts]

def fn {F : FTy → Type} [FloatOps F] (main_arg0 : FVec F S512x256 .f32) (main_arg1 : FVec F S256x32 .f32) (main_arg2 : IVec S512x2 32) (main_arg3 : FVec F S4x256x512 .f32) : IVec S512x256 1 × IVec S256x32 1 × IVec S512 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .f32 := Host.absf main_arg0
  let main_cst : FVec F S_ .f32 := constant S_ .f32 0x7F800000#32
  let main_v6 : FVec F S512x256 .f32 := broadcastInDim S512x256 ![] bcast_S_S512x256 main_cst
  let main_v7 : IVec S512x256 1 := cmpf .olt main_v5 main_v6
  let main_v8 : FVec F S256x32 .f32 := Host.absf main_arg1
  let main_cst_1 : FVec F S_ .f32 := constant S_ .f32 0x7F800000#32
  let main_v9 : FVec F S256x32 .f32 := broadcastInDim S256x32 ![] bcast_S_S256x32 main_cst_1
  let main_v10 : IVec S256x32 1 := cmpf .olt main_v8 main_v9
  let main_v11 : IVec S512x1 1 := (extractStridedSlice S512x1 ![0, 0] · slices_S512x2_S512x1_0_0) main_v4
  let main_v12 : IVec S512 1 := shapeCast S512 main_v11 shapeCasts_S512x1_S512
  let main_v13 : IVec S512x1 1 := (extractStridedSlice S512x1 ![0, 1] · slices_S512x2_S512x1_0_1) main_v4
  let main_v14 : IVec S512 1 := shapeCast S512 main_v13 shapeCasts_S512x1_S512
  let main_v15 : IVec S512 1 := ori main_v12 main_v14
  (main_v7, main_v10, main_v15)
-- ==== Pre_routed_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S_ : Shape := ⟨0, ![]⟩
abbrev S512x1 : Shape := ⟨2, ![512, 1]⟩
abbrev S512 : Shape := ⟨1, ![512]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x32 : S_.BroadcastsInDim S256x32 (![] : Fin 0 → Fin S256x32.rank)
  slices_S512x2_S512x1_0_0 : S512x2.Slices ![0, 0] S512x1
  shapeCasts_S512x1_S512 : S512x1.ShapeCasts S512
  slices_S512x2_S512x1_0_1 : S512x2.Slices ![0, 1] S512x1

variable [Facts]

def fn {F : FTy → Type} [FloatOps F] (main_arg0 : FVec F S512x256 .f32) (main_arg1 : FVec F S256x32 .f32) (main_arg2 : IVec S512x2 32) (main_arg3 : FVec F S32x256x512 .f32) : IVec S512x256 1 × IVec S256x32 1 × IVec S512 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .f32 := Host.absf main_arg0
  let main_cst : FVec F S_ .f32 := constant S_ .f32 0x7F800000#32
  let main_v6 : FVec F S512x256 .f32 := broadcastInDim S512x256 ![] bcast_S_S512x256 main_cst
  let main_v7 : IVec S512x256 1 := cmpf .olt main_v5 main_v6
  let main_v8 : FVec F S256x32 .f32 := Host.absf main_arg1
  let main_cst_1 : FVec F S_ .f32 := constant S_ .f32 0x7F800000#32
  let main_v9 : FVec F S256x32 .f32 := broadcastInDim S256x32 ![] bcast_S_S256x32 main_cst_1
  let main_v10 : IVec S256x32 1 := cmpf .olt main_v8 main_v9
  let main_v11 : IVec S512x1 1 := (extractStridedSlice S512x1 ![0, 0] · slices_S512x2_S512x1_0_0) main_v4
  let main_v12 : IVec S512 1 := shapeCast S512 main_v11 shapeCasts_S512x1_S512
  let main_v13 : IVec S512x1 1 := (extractStridedSlice S512x1 ![0, 1] · slices_S512x2_S512x1_0_1) main_v4
  let main_v14 : IVec S512 1 := shapeCast S512 main_v13 shapeCasts_S512x1_S512
  let main_v15 : IVec S512 1 := ori main_v12 main_v14
  (main_v7, main_v10, main_v15)
-- ==== Kernel.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S64x512 : Shape := ⟨2, ![64, 512]⟩
abbrev S512x512 : Shape := ⟨2, ![512, 512]⟩
abbrev S7x64x512 : Shape := ⟨3, ![7, 64, 512]⟩
abbrev S7 : Shape := ⟨1, ![7]⟩
abbrev S_ : Shape := ⟨0, ![]⟩
abbrev S512x32 : Shape := ⟨2, ![512, 32]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x64x512 : Shape := ⟨3, ![1, 64, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S4x256x512, .f32⟩
  | .hbm, ⟨4, _⟩ => ⟨S64x512, .f32⟩
  | .local _ .vmem, ⟨0, _⟩ => ⟨S512x256, .f32⟩
  | .local _ .vmem, ⟨1, _⟩ => ⟨S256x32, .f32⟩
  | .local _ .vmem, ⟨2, _⟩ => ⟨S512x2, .i32⟩
  | .local _ .vmem, ⟨3, _⟩ => ⟨S4x256x512, .f32⟩
  | .local _ .vmem, ⟨4, _⟩ => ⟨S64x512, .f32⟩
  | .local _ .vmem, ⟨5, _⟩ => ⟨S512x512, .f32⟩
  | .local _ .vmem, ⟨6, _⟩ => ⟨S7x64x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_72 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v140 : BitVec 32 := Scalar.addi v2 c1_i32_72
  let c8_i32_73 : BitVec 32 := 8#32
  let v141 : BitVec 32 := Scalar.remsi v140 c8_i32_73
  let c64_i32 : BitVec 32 := 64#32
  let v142 : BitVec 32 := Scalar.muli v141 c64_i32
  let c0_i32_81 : BitVec 32 := 0#32
  ![v142.toNat, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v140 : BitVec 32 := Scalar.addi v2 c1_i32_72
  let c8_i32_73 : BitVec 32 := 8#32
  let v141 : BitVec 32 := Scalar.remsi v140 c8_i32_73
  let c1_i32_77 : BitVec 32 := 1#32
  let v143 : BitVec 32 := Scalar.muli v141 c1_i32_77
  let v144 : BitVec 32 := Scalar.addi c0_i32_78 v143
  v144.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v152 : BitVec 32 := Scalar.addi v2 c2_i32_82
  let c8_i32_83 : BitVec 32 := 8#32
  let v153 : BitVec 32 := Scalar.remsi v152 c8_i32_83
  let c1_i32_88 : BitVec 32 := 1#32
  let v155 : BitVec 32 := Scalar.muli v153 c1_i32_88
  let v156 : BitVec 32 := Scalar.addi c0_i32_89 v155
  v156.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v164 : BitVec 32 := Scalar.addi v2 c3_i32_93
  let c8_i32_94 : BitVec 32 := 8#32
  let v165 : BitVec 32 := Scalar.remsi v164 c8_i32_94
  let c1_i32_99 : BitVec 32 := 1#32
  let v167 : BitVec 32 := Scalar.muli v165 c1_i32_99
  let v168 : BitVec 32 := Scalar.addi c0_i32_100 v167
  v168.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v176 : BitVec 32 := Scalar.addi v2 c4_i32_104
  let c8_i32_105 : BitVec 32 := 8#32
  let v177 : BitVec 32 := Scalar.remsi v176 c8_i32_105
  let c1_i32_110 : BitVec 32 := 1#32
  let v179 : BitVec 32 := Scalar.muli v177 c1_i32_110
  let v180 : BitVec 32 := Scalar.addi c0_i32_111 v179
  v180.toNat
def k0_dev12 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_115 : BitVec 32 := 5#32
  let v188 : BitVec 32 := Scalar.addi v2 c5_i32_115
  let c8_i32_116 : BitVec 32 := 8#32
  let v189 : BitVec 32 := Scalar.remsi v188 c8_i32_116
  let c1_i32_121 : BitVec 32 := 1#32
  let v191 : BitVec 32 := Scalar.muli v189 c1_i32_121
  let v192 : BitVec 32 := Scalar.addi c0_i32_122 v191
  v192.toNat
def k0_dev13 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_126 : BitVec 32 := 6#32
  let v200 : BitVec 32 := Scalar.addi v2 c6_i32_126
  let c8_i32_127 : BitVec 32 := 8#32
  let v201 : BitVec 32 := Scalar.remsi v200 c8_i32_127
  let c1_i32_132 : BitVec 32 := 1#32
  let v203 : BitVec 32 := Scalar.muli v201 c1_i32_132
  let v204 : BitVec 32 := Scalar.addi c0_i32_133 v203
  v204.toNat
def k0_dev14 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_137 : BitVec 32 := 7#32
  let v212 : BitVec 32 := Scalar.addi v2 c7_i32_137
  let c8_i32_138 : BitVec 32 := 8#32
  let v213 : BitVec 32 := Scalar.remsi v212 c8_i32_138
  let c1_i32_143 : BitVec 32 := 1#32
  let v215 : BitVec 32 := Scalar.muli v213 c1_i32_143
  let v216 : BitVec 32 := Scalar.addi c0_i32_144 v215
  v216.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_148 : BitVec 32 := 64#32
  let v224 : BitVec 32 := Scalar.muli v2 c64_i32_148
  let v225 : Index := Scalar.indexCast v224
  let c0_149 : Index := 0#32
  ![v225.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S512x256x512 : Shape := ⟨3, ![512, 256, 512]⟩
abbrev S512x512 : Shape := ⟨2, ![512, 512]⟩

abbrev nBuf : Space → Nat
  | .hbm => 99
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S32x256x512, .f32⟩
  | .hbm, ⟨4, _⟩ => ⟨S512x32, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x32, .f32⟩
  | .hbm, ⟨9, _⟩ => ⟨S512x32, .f32⟩
  | .hbm, ⟨10, _⟩ => ⟨S512x32, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x32, .f32⟩
  | .hbm, ⟨15, _⟩ => ⟨S512x32, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x1, .i32⟩
  | .hbm, ⟨23, _⟩ => ⟨S512x2, .i32⟩
  | .hbm, ⟨24, _⟩ => ⟨S2, .i32⟩
  | .hbm, ⟨25, _⟩ => ⟨S_, .i32⟩
  | .hbm, ⟨26, _⟩ => ⟨S512x2, .i32⟩
  | .hbm, ⟨27, _⟩ => ⟨S512x2, .i1⟩
  | .hbm, ⟨28, _⟩ => ⟨S1x2, .i32⟩
  | .hbm, ⟨29, _⟩ => ⟨S512x2, .i32⟩
  | .hbm, ⟨30, _⟩ => ⟨S512x2, .i1⟩
  | .hbm, ⟨31, _⟩ => ⟨S512x2, .i1⟩
  | .hbm, ⟨32, _⟩ => ⟨S_, .i1⟩
  | .hbm, ⟨33, _⟩ => ⟨S512, .i1⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512x1, .i32⟩
  | .hbm, ⟨39, _⟩ => ⟨S512x1, .i32⟩
  | .hbm, ⟨40, _⟩ => ⟨S512x2, .i32⟩
  | .hbm, ⟨41, _⟩ => ⟨S2, .i32⟩
  | .hbm, ⟨42, _⟩ => ⟨S_, .i32⟩
  | .hbm, ⟨43, _⟩ => ⟨S512x2, .i32⟩
  | .hbm, ⟨44, _⟩ => ⟨S512x2, .i1⟩
  | .hbm, ⟨45, _⟩ => ⟨S1x2, .i32⟩
  | .hbm, ⟨46, _⟩ => ⟨S512x2, .i32⟩
  | .hbm, ⟨47, _⟩ => ⟨S512x2, .i1⟩
  | .hbm, ⟨48, _⟩ => ⟨S512x2, .i1⟩
  | .hbm, ⟨49, _⟩ => ⟨S_, .i1⟩
  | .hbm, ⟨50, _⟩ => ⟨S512, .i1⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512x1, .i32⟩
  | .hbm, ⟨57, _⟩ => ⟨S1, .i32⟩
  | .hbm, ⟨58, _⟩ => ⟨S_, .i32⟩
  | .hbm, ⟨59, _⟩ => ⟨S512x1, .i32⟩
  | .hbm, ⟨60, _⟩ => ⟨S512x1, .i1⟩
  | .hbm, ⟨61, _⟩ => ⟨S1x1, .i32⟩
  | .hbm, ⟨62, _⟩ => ⟨S512x1, .i32⟩
  | .hbm, ⟨63, _⟩ => ⟨S512x1, .i1⟩
  | .hbm, ⟨64, _⟩ => ⟨S512x1, .i1⟩
  | .hbm, ⟨65, _⟩ => ⟨S_, .i1⟩
  | .hbm, ⟨66, _⟩ => ⟨S512, .i1⟩
  | .hbm, ⟨67, _⟩ => ⟨S512x256x512, .f32⟩
  | .hbm, ⟨68, _⟩ => ⟨S512x256x512, .i1⟩
  | .hbm, ⟨69, _⟩ => ⟨S_, .f32⟩
  | .hbm, ⟨70, _⟩ => ⟨S512x256x512, .f32⟩
  | .hbm, ⟨71, _⟩ => ⟨S512x256x512, .f32⟩
  | .hbm, ⟨72, _⟩ => ⟨S512x512, .f32⟩
  | .hbm, ⟨73, _⟩ => ⟨S512x1, .i32⟩
  | .hbm, ⟨74, _⟩ => ⟨S1, .i32⟩
  | .hbm, ⟨75, _⟩ => ⟨S_, .i32⟩
  | .hbm, ⟨76, _⟩ => ⟨S512x1, .i32⟩
  | .hbm, ⟨77, _⟩ => ⟨S512x1, .i1⟩
  | .hbm, ⟨78, _⟩ => ⟨S1x1, .i32⟩
  | .hbm, ⟨79, _⟩ => ⟨S512x1, .i32⟩
  | .hbm, ⟨80, _⟩ => ⟨S512x1, .i1⟩
  | .hbm, ⟨81, _⟩ => ⟨S512x1, .i1⟩
  | .hbm, ⟨82, _⟩ => ⟨S_, .i1⟩
  | .hbm, ⟨83, _⟩ => ⟨S512, .i1⟩
  | .hbm, ⟨84, _⟩ => ⟨S512x256x512, .f32⟩
  | .hbm, ⟨85, _⟩ => ⟨S512x256x512, .i1⟩
  | .hbm, ⟨86, _⟩ => ⟨S_, .f32⟩
  | .hbm, ⟨87, _⟩ => ⟨S512x256x512, .f32⟩
  | .hbm, ⟨88, _⟩ => ⟨S512x256x512, .f32⟩
  | .hbm, ⟨89, _⟩ => ⟨S512x512, .f32⟩
  | .hbm, ⟨90, _⟩ => ⟨S512, .f32⟩
  | .hbm, ⟨91, _⟩ => ⟨S512x1, .f32⟩
  | .hbm, ⟨92, _⟩ => ⟨S512x512, .f32⟩
  | .hbm, ⟨93, _⟩ => ⟨S512x512, .f32⟩
  | .hbm, ⟨94, _⟩ => ⟨S512, .f32⟩
  | .hbm, ⟨95, _⟩ => ⟨S512x1, .f32⟩
  | .hbm, ⟨96, _⟩ => ⟨S512x512, .f32⟩
  | .hbm, ⟨97, _⟩ => ⟨S512x512, .f32⟩
  | .hbm, ⟨98, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_12 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Parts.lean ====
/-
What one device computes, as functions of the vectors that it loads: its share of every token's
result (`partVal`), and the sum of eight blocks of rows (`sumVal`). Both are compositions of the
payloads of the kernel's skeleton, over any float values.
-/
module

public import proofs.«01_k».proof.Proof.Gen.KernelIdeal
public import proofs.«01_k».proof.Proof.Gen.KernelIdeal.Skeleton

@[expose] public section

noncomputable section

namespace Cert.K

open Cert.KernelIdeal Cert.KernelIdeal.Gen
open Idealize.ShloMosaic Idealize.SL.Sem

variable {F : FTy → Type} [FloatOps F]

/-- The device number as the kernel computes it from `device_id`. -/
def devWord (c : Dev nD) : BitVec 32 := Scalar.remsi (Scalar.divsi (Dev.word c) 1#32) 8#32

/-- The second gate's column, from the loaded tokens, router weights and routes. -/
def gate1 (X : Vec F S512x256 .f32) (W : Vec F S256x32 .f32) (R : Vec F S512x2 .i32) : FVec F S512x1 .f32 :=
  k0_pay9 (k0_pay2 X W) (k0_pay7 R) (k0_pay8 (F := F))

/-- The sum of both gates' columns. -/
def gateSum (X : Vec F S512x256 .f32) (W : Vec F S256x32 .f32) (R : Vec F S512x2 .i32) : FVec F S512x1 .f32 :=
  k0_pay10 (k0_pay2 X W) (k0_pay6 X W R) (k0_pay7 R) (k0_pay8 (F := F))

/-- What a device with device word `w` and the experts `E0 … E3` contributes to every token's result. -/
def partVal (w : BitVec 32) (X : Vec F S512x256 .f32) (W : Vec F S256x32 .f32) (R : Vec F S512x2 .i32)
    (E0 E1 E2 E3 : Vec F S1x256x512 .f32) : FVec F S512x512 .f32 :=
  k0_pay12 w (k0_pay1 X) (k0_pay4 R) (k0_pay5 R) (k0_pay6 X W R) (gate1 X W R) (gateSum X W R)
    (k0_pay11 w (k0_pay1 X) (k0_pay2 X W) (k0_pay4 R) (k0_pay5 R) (k0_pay6 X W R) (k0_pay7 R) (k0_pay8 (F := F)) E0 E1)
    4#32 E2 E3

/-- A device's own block of rows and the seven received blocks, added in the order in which the kernel
    waits for them: slot 6 first, slot 0 last. -/
def sumVal (own : Vec F S64x512 .f32) (r : Fin 7 → Vec F S1x64x512 .f32) : FVec F S64x512 .f32 :=
  k0_pay15 (k0_pay14 (k0_pay13 own (r 6) (r 5) (r 4)) (r 3) (r 2)) (r 1) (r 0)

end Cert.K

end
-- ==== Proof.Protocol.lean ====
/-
The exchange between the eight devices, as a schedule of duties.

Each device has fifteen semaphores that others or its own transfers raise: the barrier semaphore, seven send
semaphores and seven receive semaphores. Device `c` signals the barrier of the `j+1`-th device after it
(`nx c j`) for every `j`, and with that signal lends it its own receive slot `j`. Having waited for seven
signals, a device holds one slot of every other device. Its transfer `j` takes the rows of its contribution
that belong to `nx c j` into slot `6 - j` there; so slot `s` of device `d` is filled by `nx d s`.
-/
module

public import proofs.«01_k».proof.Proof.Parts
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are numbered by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The devices around the ring -/

set_option backward.proofsInPublic true in
/-- The `j+1`-th device after `c`. -/
def nx (c : Dev nD) (j : Fin 7) : Dev nD := ⟨(c.val + j.val + 1) % 8, Nat.mod_lt _ (by decide)⟩
set_option backward.proofsInPublic true in
/-- The `j+1`-th device before `c`. -/
def bk (c : Dev nD) (j : Fin 7) : Dev nD := ⟨(c.val + 7 - j.val) % 8, Nat.mod_lt _ (by decide)⟩
/-- The slot that transfer `j` fills. -/
def opp (j : Fin 7) : Fin 7 := ⟨6 - j.val, by omega⟩

theorem nx_bk (c : Dev nD) (j : Fin 7) : nx (bk c j) j = c := by revert c j; decide
theorem bk_nx (c : Dev nD) (j : Fin 7) : bk (nx c j) j = c := by revert c j; decide
theorem nx_opp (c : Dev nD) (j : Fin 7) : nx (nx c j) (opp j) = c := by revert c j; decide
theorem bk_opp (c : Dev nD) (j : Fin 7) : bk c (opp j) = nx c j := by revert c j; decide
theorem opp_opp (j : Fin 7) : opp (opp j) = j := by revert j; decide
theorem nx_ne (c : Dev nD) (j : Fin 7) : nx c j ≠ c := by revert c j; decide
theorem nx_inj (c : Dev nD) : ∀ j j' : Fin 7, nx c j = nx c j' → j = j' := by revert c; decide

/-- Going `j+1` devices on, as a permutation of the devices. -/
def ring (j : Fin 7) : Dev nD ≃ Dev nD := ⟨(nx · j), (bk · j), (bk_nx · j), (nx_bk · j)⟩
/-- The reversal of the slots. -/
def oppEquiv : Fin 7 ≃ Fin 7 := ⟨opp, opp, opp_opp, opp_opp⟩

/-! ## The buffers, the semaphores and the cells -/

abbrev xM : Memref sig .tc .vmem S512x256 .f32 := Memref.whole cc0_stg0_0
abbrev rwM : Memref sig .tc .vmem S256x32 .f32 := Memref.whole cc0_stg1_0
abbrev riM : Memref sig .tc .vmem S512x2 .i32 := Memref.whole cc0_stg2_0
abbrev ewM : Memref sig .tc .vmem S4x256x512 .f32 := Memref.whole cc0_stg3_0
abbrev oM : Memref sig .tc .vmem S64x512 .f32 := Memref.whole cc0_stg4_0
abbrev pM : Memref sig .tc .vmem S512x512 .f32 := Memref.whole cc0_scratch0
abbrev rM : Memref sig .tc .vmem S7x64x512 .f32 := Memref.whole cc0_scratch1

theorem row_inb (b : Fin 8) : ∀ a, (![64 * b.val, 0] : Fin 2 → Nat) a + S64x512.size a ≤ S512x512.size a := by revert b; decide
theorem slot_inb (s : Fin 7) : ∀ a, (![s.val, 0, 0] : Fin 3 → Nat) a + S1x64x512.size a ≤ S7x64x512.size a := by revert s; decide

/-- The rectangle of the rows that belong to device `b`. -/
abbrev rowR (b : Fin 8) : Rect S512x512 := Rect.unit (s := S512x512) ![64 * b.val, 0] S64x512.size (row_inb b)
/-- The rectangle of receive slot `s`. -/
abbrev slotR (s : Fin 7) : Rect S7x64x512 := Rect.unit (s := S7x64x512) ![s.val, 0, 0] S1x64x512.size (slot_inb s)
/-- The rows of a contribution that belong to device `b`. -/
abbrev rowM (b : Fin 8) : Memref sig .tc .vmem S64x512 .f32 := pM.slice (rowR b) (fun _ => rfl)
/-- Receive slot `s`. -/
abbrev slotM (s : Fin 7) : Memref sig .tc .vmem S64x512 .f32 := (rM.slice (slotR s) (fun _ => rfl)).squeeze S64x512 squeezes_S1x64x512_S64x512

/-- The barrier semaphore. -/
abbrev barS : Sem sig := (SemArray.scalar (sig.barrier 0 rfl) : Sems sig S_).sem
/-- Send semaphore `j`. -/
def sendS (j : Fin 7) : DmaSem sig := ⟨5 + j.val, by have := j.isLt; show _ < 19; omega⟩
/-- Receive semaphore `s`. -/
def recvS (s : Fin 7) : DmaSem sig := ⟨12 + s.val, by have := s.isLt; show _ < 19; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (s : Fin 7) : GSem nD τ sig := ((c : Thread nD τ), .dma (recvS s))

/-- What a transfer of 64 rows credits its semaphores with. -/
def N : ℕ := (slotM 0).view.dmaCredit
theorem N_pos : 0 < N := View.dmaCredit_pos _ (by decide)
theorem credit_slot (s : Fin 7) : (slotM s).view.dmaCredit = N := rfl
theorem credit_row (b : Fin 8) : (rowM b).view.dmaCredit = N := rfl

/-! ## Contents -/

/-- The device's copy of the tokens, of the router weights, of the routes, and its four experts. -/
def xstg (c : Dev nD) : (cc0_stg0_0 : Ref sig .tc).ty.Contents (Elt F) :=
  (win0_0.blk (0 : Fin 1)).view.read (Elt F) ((s₀ m ρ).mem ((c : Thread nD τ).loc main_arg0))
def rwstg (c : Dev nD) : (cc0_stg1_0 : Ref sig .tc).ty.Contents (Elt F) :=
  (win0_1.blk (0 : Fin 1)).view.read (Elt F) ((s₀ m ρ).mem ((c : Thread nD τ).loc main_arg1))
def ristg (c : Dev nD) : (cc0_stg2_0 : Ref sig .tc).ty.Contents (Elt F) :=
  (win0_2.blk (0 : Fin 1)).view.read (Elt F) ((s₀ m ρ).mem ((c : Thread nD τ).loc main_arg2))
def ewstg (c : Dev nD) : (cc0_stg3_0 : Ref sig .tc).ty.Contents (Elt F) :=
  (win0_3.blk (0 : Fin 1)).view.read (Elt F) ((s₀ m ρ).mem ((c : Thread nD τ).loc main_arg3))

theorem exp_inb (l : Fin 4) : ∀ a, (![l.val, 0, 0] : Fin 3 → Nat) a + S1x256x512.size a ≤ S4x256x512.size a := by revert l; decide
/-- Expert `l` of the four of device `c`, as the kernel loads it. -/
def expert (c : Dev nD) (l : Fin 4) : Vec F S1x256x512 .f32 :=
  ewM.view.readAt (Elt F) (Rect.unit (s := S4x256x512) ![l.val, 0, 0] S1x256x512.size (exp_inb l)).toLoadRect (ewstg m ρ c)

/-- Device `c`'s contribution to every token's result, as it stores it. -/
def part (c : Dev nD) : (cc0_scratch0 : Ref sig .tc).ty.Contents (Elt F) :=
  partVal (devWord c) (xstg m ρ c) (rwstg m ρ c) (ristg m ρ c) (expert m ρ c 0) (expert m ρ c 1) (expert m ρ c 2) (expert m ρ c 3)

set_option backward.proofsInPublic true in
/-- The place of row `r` of device `b`'s block in the whole contribution. -/
def rowIx (b : Fin 8) (r : Fin 64) (o : Fin 512) : S512x512.Idx :=
  fun a => match a with
    | ⟨0, _⟩ => (⟨64 * b.val + r.val, by have := b.isLt; have := r.isLt; show _ < 512; omega⟩ : Fin 512)
    | ⟨1, _⟩ => o

/-- The receive buffer of device `c` when every slot is filled: slot `s` holds the rows that belong to `c` of
    the contribution of `nx c s`. -/
def landed (c : Dev nD) : (cc0_scratch1 : Ref sig .tc).ty.Contents (Elt F) :=
  fun i => part m ρ (nx c (i (0 : Fin 3))) (rowIx c (i (1 : Fin 3)) (i (2 : Fin 3)))

/-- The rows that belong to `b` of device `c`'s contribution buffer, at contents `f`. -/
def rowPts (c : Dev nD) (b : Fin 8) (f : Buf (Elt F) ((c : Thread nD τ).loc cc0_scratch0)) : sProp 𝕄 :=
  (rowM b).view.loc (c : Thread nD τ) ↦[(rowM b).view.set]{fullShare} f
/-- Receive slot `s` of device `c`, at contents `f`. -/
def slotPts (c : Dev nD) (s : Fin 7) (f : Buf (Elt F) ((c : Thread nD τ).loc cc0_scratch1)) : sProp 𝕄 :=
  (slotM s).view.loc (c : Thread nD τ) ↦[(slotM s).view.set]{fullShare} f

omit [FloatOps F] in
instance rowPts_storable (c : Dev nD) (b) (f) : BI.Storable (upEmb : UEmb _ 𝕄) (rowPts (F := F) c b f) := by unfold rowPts; infer_instance
omit [FloatOps F] in
instance slotPts_storable (c : Dev nD) (s) (f) : BI.Storable (upEmb : UEmb _ 𝕄) (slotPts (F := F) c s f) := by unfold slotPts; infer_instance

/-! ## The schedule -/

/-- What signal `j` to device `c`'s barrier hands `c`: slot `j` of the device that sends it. -/
def barPay (c : Dev nD) (j : Fin 7) : sProp 𝕄 := iprop(∃ f, slotPts (bk c j) j f)
/-- What the arrival in slot `s` hands `c`: the slot, filled. -/
def recvPay (c : Dev nD) (s : Fin 7) : sProp 𝕄 := slotPts c s (landed m ρ c)
/-- What the departure of transfer `j` hands back: the rows it read. -/
def sendPay (c : Dev nD) (j : Fin 7) : sProp 𝕄 := rowPts c (nx c j) (part m ρ c)

/-- Which of the seven send (or receive) semaphores a DMA semaphore is. -/
def semIx (q : DmaSem sig) : Fin 7 := ⟨(q.val + 2) % 7, Nat.mod_lt _ (by decide)⟩

/-- One round: a barrier cell has seven duties of one unit, a send or receive cell one duty of a transfer's credit. -/
def rd : Rounds.Schedule (GSem nD τ sig) (Fin 7) 𝕄 where
  duties g r := if r = 0 ∧ g.1.2 = .tc then
      (match g.2 with
        | .reg q => if q = barS then Finset.univ else ∅
        | .dma q => if 5 ≤ q.val then {0} else ∅)
    else ∅
  unitless _ := False
  amount g _ _ := match g.2 with | .reg _ => 1 | .dma _ => N
  payload g _ d := match g.2 with
    | .reg _ => barPay g.1.1 d
    | .dma q => if q.val < 12 then sendPay m ρ g.1.1 (semIx q) else recvPay m ρ g.1.1 (semIx q)
  amount_pos g _ _ _ := by
    cases g.2 with
    | reg _ => exact Nat.one_pos
    | dma _ => exact N_pos

instance rd_payload_storable (g : GSem nD τ sig) (r : ℕ) (d : Fin 7) :
    BI.Storable (upEmb : UEmb _ 𝕄) ((rd (F := F) m ρ).payload g r d) := by
  obtain ⟨t, sm⟩ := g
  cases sm with
  | reg q => show BI.Storable upEmb (barPay t.1 d); unfold barPay; infer_instance
  | dma q =>
    show BI.Storable upEmb (if q.val < 12 then sendPay m ρ t.1 (semIx q) else recvPay m ρ t.1 (semIx q))
    unfold sendPay recvPay; split <;> infer_instance

section Sched
variable (c : Dev nD) (j : Fin 7)

theorem semIx_send : semIx (sendS j) = j := by revert j; decide
theorem semIx_recv : semIx (recvS j) = j := by revert j; decide
theorem send_lt : (sendS j).val < 12 := by revert j; decide
theorem recv_nlt : ¬ (recvS j).val < 12 := by revert j; decide
theorem send_ge : 5 ≤ (sendS j).val := by revert j; decide
theorem recv_ge : 5 ≤ (recvS j).val := by revert j; decide

theorem duties_bar : (rd (F := F) m ρ).duties (barCell c) 0 = Finset.univ := by
  dsimp only [rd]; rw [if_pos ⟨rfl, rfl⟩, if_pos rfl]
theorem duties_send : (rd (F := F) m ρ).duties (sendCell c j) 0 = {0} := by
  dsimp only [rd]; rw [if_pos ⟨rfl, rfl⟩, if_pos (send_ge j)]
theorem duties_recv : (rd (F := F) m ρ).duties (recvCell c j) 0 = {0} := by
  dsimp only [rd]; rw [if_pos ⟨rfl, rfl⟩, if_pos (recv_ge j)]
theorem duties_later (g : GSem nD τ sig) : ∀ r, 1 ≤ r → (rd (F := F) m ρ).duties g r = ∅ :=
  fun r hr => by dsimp only [rd]; rw [if_neg fun h => by omega]

theorem amount_bar (d : Fin 7) : (rd (F := F) m ρ).amount (barCell c) 0 d = 1 := rfl
theorem amount_send (d : Fin 7) : (rd (F := F) m ρ).amount (sendCell c j) 0 d = N := rfl
theorem amount_recv (d : Fin 7) : (rd (F := F) m ρ).amount (recvCell c j) 0 d = N := rfl

theorem expect_bar : (rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c j) 0 = N := by
  unfold Schedule.expect Schedule.amountOf; rw [duties_send, Finset.sum_singleton, amount_send]
theorem expect_recv : (rd (F := F) m ρ).expect (recvCell c j) 0 = N := by
  unfold Schedule.expect Schedule.amountOf; rw [duties_recv, Finset.sum_singleton, amount_recv]

theorem payload_bar (d : Fin 7) : (rd (F := F) m ρ).payload (barCell c) 0 d = barPay c d := rfl
theorem payload_send (d : Fin 7) : (rd (F := F) m ρ).payload (sendCell c j) 0 d = sendPay m ρ c j := by
  dsimp only [rd]; rw [if_pos (send_lt j), semIx_send]
theorem payload_recv (d : Fin 7) : (rd (F := F) m ρ).payload (recvCell c j) 0 d = recvPay m ρ c j := by
  dsimp only [rd]; rw [if_neg (recv_nlt j), semIx_recv]

/-- The whole round of a barrier cell: one slot of each other device. -/
theorem rest_bar : bigSep ((rd (F := F) m ρ).duties (barCell c) 0 \ ∅) (fun d => (rd (F := F) m ρ).payload (barCell c) 0 d)
    = bigSep Finset.univ fun j : Fin 7 => barPay c j := by
  rw [Finset.sdiff_empty, duties_bar]; rfl
theorem rest_send : bigSep ((rd (F := F) m ρ).duties (sendCell c j) 0 \ ∅) (fun d => (rd (F := F) m ρ).payload (sendCell c j) 0 d) = sendPay m ρ c j := by
  rw [Finset.sdiff_empty, duties_send, bigSep_singleton, payload_send]
theorem rest_recv : bigSep ((rd (F := F) m ρ).duties (recvCell c j) 0 \ ∅) (fun d => (rd (F := F) m ρ).payload (recvCell c j) 0 d) = recvPay m ρ c j := by
  rw [Finset.sdiff_empty, duties_recv, bigSep_singleton, payload_recv]

end Sched

/-! ## What each device owes at launch, and the levels -/

/-- All seven numbers, in order. -/
abbrev all7 : List (Fin 7) := [0, 1, 2, 3, 4, 5, 6]

/-- The credits of the transfers `l` that device `c` still has to make. -/
def XO (c : Dev nD) : List (Fin 7) → CellTallies nD τ sig Unit
  | [] => 0
  | j :: l => XO c l + tallyAt (recvCell (nx c j) (opp j)) () N
/-- Those of all transfers and of the signals `l` that it still has to send. -/
def BO (c : Dev nD) : List (Fin 7) → CellTallies nD τ sig Unit
  | [] => XO c all7
  | j :: l => BO c l + tallyAt (barCell (nx c j)) () 1
/-- What device `c` owes at launch. -/
def O₀ (c : Dev nD) : CellTallies nD τ sig Unit := BO c all7

def L (g : GSem nD τ sig) : Finset Unit := if g.1.2 = .tc then {()} else ∅
/-- Barrier cells at 1, receive cells at 2, all others at 0. -/
def lv (g : GSem nD τ sig) (_ : Unit) : ℕ := match g.2 with
  | .reg q => if q = barS then 1 else 0
  | .dma q => if q.val < 12 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [if_pos rfl]
theorem lv_recv (c : Dev nD) (s : Fin 7) : lv (recvCell c s) () = 2 := by dsimp only [lv]; rw [if_neg (recv_nlt s)]

theorem XO_pos {c : Dev nD} {g : GSem nD τ sig} {u : Unit} : ∀ {l : List (Fin 7)}, 0 < XO c l g u → ∃ d s, g = recvCell d s
  | [], h => absurd h (Nat.lt_irrefl 0)
  | j :: l, h => by
    unfold XO at h
    rw [Pi.add_apply, Finsupp.add_apply, tallyAt_apply] at h
    by_cases hg : g = recvCell (nx c j) (opp j) ∧ u = ()
    · exact ⟨_, _, hg.1⟩
    · rw [if_neg hg, Nat.add_zero] at h; exact XO_pos h

theorem BO_pos {c : Dev nD} {g : GSem nD τ sig} {u : Unit} :
    ∀ {l : List (Fin 7)}, 0 < BO c l g u → (∃ d s, g = recvCell d s) ∨ ∃ d, g = barCell d
  | [], h => Or.inl (XO_pos h)
  | j :: l, h => by
    unfold BO at h
    rw [Pi.add_apply, Finsupp.add_apply, tallyAt_apply] at h
    by_cases hg : g = barCell (nx c j) ∧ u = ()
    · exact Or.inr ⟨_, hg.1⟩
    · rw [if_neg hg, Nat.add_zero] at h; exact BO_pos h

omit [FloatOps F] in
/-- A wait on a staging semaphore is below everything a device may owe. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases BO_pos hg with ⟨d, s, rfl⟩ | ⟨d, rfl⟩ <;> exact Finset.mem_singleton_self _)
      (fun p hp => by rw [Finset.mem_singleton.mp hp]; dsimp only [lv]; rw [if_pos hq])
      (fun g u hg => by
        rcases BO_pos hg with ⟨d, s, rfl⟩ | ⟨d, rfl⟩
        · rw [lv_recv]; decide
        · rw [lv_bar]; decide)
  · rw [MayWait_zero]; iintro -; iempintro

omit [FloatOps F] in
/-- At its barrier wait a device owes receive credits only, which are above. -/
theorem mayWait_bar (c : Dev nD) :
    (levAts L lv : sProp 𝕄) ⊢ MayWait (c : Thread nD τ) (.reg barS) () (BO c []) :=
  MayOwe.of_cut (L := L) (lev := lv) 1 (fun p hp => by rw [Finset.mem_singleton.mp hp, L_tc]; exact Finset.mem_singleton_self _)
    (fun g u hg => by obtain ⟨d, s, rfl⟩ := XO_pos hg; exact Finset.mem_singleton_self _)
    (fun p hp => by rw [Finset.mem_singleton.mp hp]; dsimp only [lv]; rw [if_pos rfl])
    (fun g u hg => by obtain ⟨d, s, rfl⟩ := XO_pos hg; rw [lv_recv]; decide)

end Cert.K

end
-- ==== Proof.Geometry.lean ====
/-
The two scratch buffers as blocks: the contribution is eight blocks of 64 rows, the receive buffer seven slots.
-/
module

public import proofs.«01_k».proof.Proof.Protocol

@[expose] public section

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem rowM_set (b : Fin 8) : (rowM b).view.set = (rowR b).set := View.set_slice_whole _ _
theorem slotM_set (s : Fin 7) : (slotM s).view.set = (slotR s).set := (View.set_reshape _ _).trans (View.set_slice_whole _ _)

/-- The elements of block `b` of the contribution buffer. -/
def rowSet (b : Fin 8) : Finset S512x512.Idx := (rowM b).view.set
/-- The elements of slot `s` of the receive buffer. -/
def slotSet (s : Fin 7) : Finset S7x64x512.Idx := (slotM s).view.set

theorem rowSet_eq (b : Fin 8) : rowSet b = (rowR b).set := rowM_set b
theorem slotSet_eq (s : Fin 7) : slotSet s = (slotR s).set := slotM_set s

theorem rows_disjoint (b b' : Fin 8) (h : b ≠ b') : Disjoint (rowSet b) (rowSet b') := by
  rw [rowSet_eq, rowSet_eq]
  exact Ring.lead_disjoint (s := S512x512) (0 : Fin 2) 64 (fun b : Fin 8 => (![64 * b.val, 0] : Fin 2 → Nat)) S64x512.size row_inb (fun _ => rfl) rfl b b' h
theorem rows_cover : Finset.univ.biUnion rowSet = Finset.univ := by
  rw [show rowSet = fun b => (rowR b).set from funext rowSet_eq]
  exact Ring.lead_cover (s := S512x512) (0 : Fin 2) 64 (fun b : Fin 8 => (![64 * b.val, 0] : Fin 2 → Nat)) S64x512.size row_inb (fun _ => rfl)
    (fun b a ha => by fin_cases a; exact absurd rfl ha; rfl) rfl (fun a ha => by fin_cases a; exact absurd rfl ha; rfl) rfl
theorem slots_disjoint (s s' : Fin 7) (h : s ≠ s') : Disjoint (slotSet s) (slotSet s') := by
  rw [slotSet_eq, slotSet_eq]
  exact Ring.lead_disjoint (s := S7x64x512) (0 : Fin 3) 1 (fun s : Fin 7 => (![s.val, 0, 0] : Fin 3 → Nat)) S1x64x512.size slot_inb (fun s => (Nat.one_mul _).symm) rfl s s' h
theorem slots_cover : Finset.univ.biUnion slotSet = Finset.univ := by
  rw [show slotSet = fun s => (slotR s).set from funext slotSet_eq]
  exact Ring.lead_cover (s := S7x64x512) (0 : Fin 3) 1 (fun s : Fin 7 => (![s.val, 0, 0] : Fin 3 → Nat)) S1x64x512.size slot_inb (fun s => (Nat.one_mul _).symm)
    (fun b a ha => by fin_cases a; exact absurd rfl ha; rfl; rfl) rfl (fun a ha => by fin_cases a; exact absurd rfl ha; rfl; rfl) rfl

omit [FloatOps F] in
/-- The whole contribution buffer is its eight blocks of rows. -/
theorem rows_split (c : Dev nD) (f : Buf (Elt F) ((c : Thread nD τ).loc cc0_scratch0)) :
    ((((c : Thread nD τ).loc cc0_scratch0) ↦{fullShare} f) : sProp 𝕄) = bigSep Finset.univ fun b : Fin 8 => rowPts c b f :=
  Ring.pointsTo_blocks (ℓ := (c : Thread nD τ).loc cc0_scratch0) rowSet rows_disjoint rows_cover f

omit [FloatOps F] in
/-- The whole receive buffer is its seven slots. -/
theorem slots_split (c : Dev nD) (f : Buf (Elt F) ((c : Thread nD τ).loc cc0_scratch1)) :
    ((((c : Thread nD τ).loc cc0_scratch1) ↦{fullShare} f) : sProp 𝕄) = bigSep Finset.univ fun s : Fin 7 => slotPts c s f :=
  Ring.pointsTo_blocks (ℓ := (c : Thread nD τ).loc cc0_scratch1) slotSet slots_disjoint slots_cover f

/-- The devices are `c` and the seven others. -/
theorem devs_eq (c : Dev nD) : (Finset.univ : Finset (Fin 8)) = insert c (Finset.univ.map ⟨nx c, nx_inj c⟩) := by revert c; decide

omit [FloatOps F] in
/-- One thing per device is one for `c` and one for each of the seven others. -/
theorem bigSep_devs (c : Dev nD) (Φ : Fin 8 → sProp 𝕄) :
    bigSep Finset.univ Φ = iprop(Φ c ∗ bigSep Finset.univ fun j : Fin 7 => Φ (nx c j)) := by
  rw [devs_eq c, bigSep_insert (by revert c; decide), bigSep_map]; rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The place of row `r` of slot `s` in the receive buffer. -/
def slotIx (s : Fin 7) (r : Fin 64) (o : Fin 512) : S7x64x512.Idx :=
  fun a => match a with
    | ⟨0, _⟩ => s
    | ⟨1, _⟩ => r
    | ⟨2, _⟩ => o

theorem rowM_emb (b : Fin 8) (x : S64x512.Idx) : (rowM b).view.emb x = rowIx b (x (0 : Fin 2)) (x (1 : Fin 2)) := by
  funext a; apply Fin.ext
  match a with
  | ⟨0, _⟩ => show 64 * b.val + 1 * (x 0).val = _; rw [Nat.one_mul]; rfl
  | ⟨1, _⟩ => show 0 + 1 * (x 1).val = _; rw [Nat.one_mul, Nat.zero_add]; rfl

theorem slotM_emb (s : Fin 7) (x : S64x512.Idx) : (slotM s).view.emb x = slotIx s (x (0 : Fin 2)) (x (1 : Fin 2)) := by
  show (slotR s).emb (Shape.reshapeEquiv _ x) = _
  rw [Shape.reshapeEquiv_eq_of_rowMajor (s := S1x64x512) _ (y := fun a => match a with | ⟨0, _⟩ => (0 : Fin 1) | ⟨1, _⟩ => x (0 : Fin 2) | ⟨2, _⟩ => x (1 : Fin 2))
    (by rw [Shape.rowMajor_val_three, Shape.rowMajor_val_two]; show (0 * 64 + (x 0).val) * 512 + (x 1).val = (x 0).val * 512 + (x 1).val; omega)]
  funext a; apply Fin.ext
  match a with
  | ⟨0, _⟩ => show s.val + 1 * 0 = _; rfl
  | ⟨1, _⟩ => show 0 + 1 * (x 0).val = _; rw [Nat.one_mul, Nat.zero_add]; rfl
  | ⟨2, _⟩ => show 0 + 1 * (x 1).val = _; rw [Nat.one_mul, Nat.zero_add]; rfl

/-- What transfer `j` of device `c` leaves in the slot it fills is what that slot holds when the receive buffer is filled. -/
theorem landed_write (c : Dev nD) (j : Fin 7) (fd : (cc0_scratch1 : Ref sig .tc).ty.Contents (Elt F)) :
    ∀ i ∈ (slotM (opp j)).view.set, (slotM (opp j)).view.write (Elt F) fd ((rowM (nx c j)).view.read (Elt F) (part m ρ c)) Finset.univ i
      = landed m ρ (nx c j) i := by
  intro i hi
  obtain ⟨x, -, rfl⟩ := Finset.mem_map.mp hi
  rw [View.write_emb_of_mem _ _ (Finset.mem_univ x), View.read_apply]
  show part m ρ c ((rowM (nx c j)).view.emb x) = landed m ρ (nx c j) ((slotM (opp j)).view.emb x)
  rw [rowM_emb, slotM_emb]
  unfold landed
  show _ = part m ρ (nx (nx c j) (opp j)) (rowIx (nx c j) (x (0 : Fin 2)) (x (1 : Fin 2)))
  rw [nx_opp]

end Cert.K

end
-- ==== Proof.Steps.lean ====
/-
One rule for each kind of step that a device's body takes: a signal, a transfer, the wait for an arrival, the
wait for a departure, and the load of a received block. Each is stated once, for any device and any step number.
-/
module

public import proofs.«01_k».proof.Proof.Geometry

@[expose] public section

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows: the invariants of all cells, and that round 0 of each has begun -/

/-- The fifteen cells of a device: its barrier, its seven send and its seven receive cells. -/
abbrev Slot15 : Type := Unit ⊕ (Fin 7 ⊕ Fin 7)
/-- The cell that a number of a device names. -/
def kcell : Dev nD × Slot15 → GSem nD τ sig
  | (c, .inl _) => barCell c
  | (c, .inr (.inl j)) => sendCell c j
  | (c, .inr (.inr s)) => recvCell c s

def records (K : Dev nD × Slot15 → ℕ) : sProp 𝕄 :=
  iprop((bigSep Finset.univ fun ck : Dev nD × Slot15 => cellInv ER (rd m ρ) (K ck) (kcell ck))
    ∗ bigSep Finset.univ fun ck : Dev nD × Slot15 => reached ER (kcell ck) 0)

instance records_persistent (K : Dev nD × Slot15 → ℕ) : BI.Persistent (records m ρ K) := by unfold records; infer_instance

variable (K : Dev nD × Slot15 → ℕ)

theorem inv_at (ck : Dev nD × Slot15) : records m ρ K ⊢ cellInv ER (rd m ρ) (K ck) (kcell ck) := by
  unfold records; exact sep_elim_left.trans (bigSep_elim (Finset.mem_univ ck))
theorem reached_at (ck : Dev nD × Slot15) : records m ρ K ⊢ reached ER (kcell ck) 0 := by
  unfold records; exact sep_elim_right.trans (bigSep_elim (Finset.mem_univ ck))

/-- Device `c` owes `O`, whatever it has waited for so far. -/
def ow (c : Dev nD) (O : CellTallies nD τ sig Unit) : sProp 𝕄 := iprop(∃ W, owes (c : Thread nD τ) O W)

section Steps
variable (c : Dev nD)

/-- What signal `j` takes: its duty, and the slot it lends. -/
def sigRes (j : Fin 7) : sProp 𝕄 := iprop(dutyTok ER (barCell (nx c j)) 0 j ∗ ∃ f, slotPts c j f)

/-- Signal `j`, sent to the `j+1`-th device on. -/
theorem sig_step {α : Type} {Q : α → sProp 𝕄} {k : PUnit → Prog (TpuEff nD τ sig (Elt F) Λ₀ .tc) α} (j : Fin 7) (l : List (Fin 7)) (n : Dev nD) (hn : n = nx c j) {k' : ℕ} (hk' : 1 = k') :
    iprop(records m ρ K ∗ ow c (BO c (j :: l)) ∗ sigRes (F := F) c j)
      ⊢ iprop((ow c (BO c l) -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS k') k) Q) := by
  subst hn
  unfold ow sigRes
  iintro ⟨#HK, ⟨%W, HO⟩, Ht, Hs⟩ Hk
  iapply (Rounds.wp_signal 𝒱₀ ER (rd m ρ) (c : Thread nD τ) none (dst := (nx c j : Thread nD τ)) (κ := K (nx c j, .inl ()))
      (d := j) (by rw [duties_bar]; exact Finset.mem_univ _) ((amount_bar m ρ (nx c j) j).trans hk') () (BO c l)
      (by subst hk'; rfl)) $$ [HO Ht Hs]
  · isplitr; · iapply (inv_at m ρ K (nx c j, .inl ())); iexact HK
    isplitl [HO]; · iexact HO
    isplitl [Ht]; · iexact Ht
    isplitl [Hs]; · rw [payload_bar]; unfold barPay; rw [bk_nx]; iexact Hs
    iapply (reached_at m ρ K (nx c j, .inl ())); iexact HK
  iintro HO
  iapply Hk
  iexists W; iexact HO

/-- The wait for the seven signals: one slot of every other device. -/
theorem bar_step {α : Type} {Q : α → sProp 𝕄} {k : PUnit → Prog (TpuEff nD τ sig (Elt F) Λ₀ .tc) α} {k' : ℕ} (hk' : k' = 7) :
    iprop(records m ρ K ∗ ow c (BO c []) ∗ levAts L lv ∗ cred (tallyAt (barCell c) () 7) ∗ atPos ER (barCell c) 0 ∅ 0)
      ⊢ iprop(((ow c (XO c all7) ∗ semVal (barCell c) 0 ∗ bigSep Finset.univ fun j : Fin 7 => barPay (F := F) c j) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold ow
  iintro ⟨#HK, ⟨%W, HO⟩, #Hlev, Hc, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := BO c []) (W := W) (R := 0) (m := 0) (T := ∅)
      (by rw [expect_bar])) $$ [Hc HO Hat]
  · isplitr; · iapply (inv_at m ρ K (c, .inl ())); iexact HK
    isplitl [Hc]; · iexact Hc
    isplitl [HO]; · iexact HO
    isplitr; · iapply (mayWait_bar c); iexact Hlev
    iexact Hat
  iintro ⟨HO, Hat, -, Hp⟩
  ihave Hp := (Entails.of_eq (rest_bar m ρ c)) $$ Hp
  imod (Rounds.cell_close ER (rd m ρ) (Set.mem_univ (K (c, .inl ()))) (fun h => h) (R := 0 + 1) (duties_later m ρ (barCell c))) $$ [Hat] with Hz
  · isplitr; · iapply (inv_at m ρ K (c, .inl ())); iexact HK
    iexact Hat
  iapply Hk
  isplitl [HO]; · iexists _; iexact HO
  isplitl [Hz] <;> iassumption

/-- What transfer `j` takes: the rows it reads, the slot it fills, and the duties of its two semaphores. -/
def sendRes (j : Fin 7) : sProp 𝕄 :=
  iprop(rowPts c (nx c j) (part m ρ c) ∗ barPay (F := F) c (opp j) ∗ dutyTok ER (sendCell c j) 0 0 ∗ dutyTok ER (recvCell (nx c j) (opp j)) 0 0)

/-- Transfer `j`: the rows of `nx c j` into its slot. The memrefs and the semaphores are the ones named by any offsets
    that come to these. -/
theorem send_step {α : Type} {Q : α → sProp 𝕄} {k : PUnit → Prog (TpuEff nD τ sig (Elt F) Λ₀ .tc) α} (j : Fin 7) (l : List (Fin 7)) (n : Dev nD) (hn : n = nx c j)
    {src : Memref sig (c : Thread nD τ).2.kind .vmem S64x512 .f32} {dst : Memref sig (Dev.tc n : Thread nD τ).2.kind .vmem S64x512 .f32}
    (hsrc' : src = rowM (nx c j)) (hdst' : dst = slotM (opp j))
    {sS rS : DmaSem sig} (hs : sS = sendS j) (hr : rS = recvS (opp j))
    {hsc : dst.view.ref.isScScratch = false} {hsrc : src.view.WordExact} {hdst : dst.view.WordExact}
    {hsem : DmaTarget.Typed .vmem (.dma rS) (.remote (Dev.tc n : Thread nD τ) dst (.dma sS) hsc)} :
    iprop(records m ρ K ∗ ow c (XO c (j :: l)) ∗ sendRes m ρ c j)
      ⊢ iprop(((ow c (XO c l) ∗ cred (tallyAt (sendCell c j) () N)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma rS) hsrc hdst hsem) k) Q) := by
  subst hn hsrc' hdst' hs hr
  unfold ow sendRes barPay
  rw [bk_opp]
  iintro ⟨#HK, ⟨%W, HO⟩, Hrow, ⟨%fn, Hslot⟩, HtS, HtV⟩ Hk
  unfold rowPts slotPts
  iapply (Rounds.wp_send_pointsTo 𝒱₀ ER (rd m ρ) (c : Thread nD τ) none (c' := (nx c j : Thread nD τ)) (src := rowM (nx c j)) (dst := slotM (opp j))
    (sS := .dma (sendS j)) (sem := .dma (recvS (opp j))) (fs := part m ρ c) (q := fullShare) (κ₁ := K (c, .inr (.inl j))) (κ₂ := K (nx c j, .inr (.inr (opp j))))
    (r₁ := 0) (r₂ := 0) (d₁ := 0) (d₂ := 0) (fd := fn)
    (by rw [duties_send]; exact Finset.mem_singleton_self _) (by rw [duties_recv]; exact Finset.mem_singleton_self _)
    () () N (credit_slot (opp j)) (amount_send m ρ c j 0) (amount_recv m ρ (nx c j) (opp j) 0) (XO c l) rfl (W := W)
    (by rw [payload_send]; exact BI.Entails.refl _)
    (by rw [payload_recv]; unfold recvPay slotPts; exact Entails.of_eq (pointsTo_congr (landed_write m ρ c j fn)))) $$ [HO Hrow Hslot HtS HtV]
  · isplitr; · iapply (inv_at m ρ K (c, .inr (.inl j))); iexact HK
    isplitr; · iapply (inv_at m ρ K (nx c j, .inr (.inr (opp j)))); iexact HK
    isplitl [Hrow]; · iexact Hrow
    isplitl [Hslot]; · iexact Hslot
    isplitl [HO]; · iexact HO
    isplitl [HtS]; · iexact HtS
    isplitr; · iapply (reached_at m ρ K (c, .inr (.inl j))); iexact HK
    isplitl [HtV]; · iexact HtV
    iapply (reached_at m ρ K (nx c j, .inr (.inr (opp j)))); iexact HK
  iintro ⟨HcS, HO⟩
  iapply Hk
  isplitl [HO]; · iexists W; iexact HO
  iexact HcS

/-- What a wait on one of the device's own fourteen semaphores takes: the credit of a transfer, and the position. -/
def waitRes (g : GSem nD τ sig) : sProp 𝕄 := iprop(cred (tallyAt g () N) ∗ atPos ER g 0 ∅ 0)

/-- The wait on one of the device's own fourteen semaphores, owing nothing: its payload comes, and its counter is zero
    for good. -/
theorem wait_step {α : Type} {Q : α → sProp 𝕄} {k : PUnit → Prog (TpuEff nD τ sig (Elt F) Λ₀ .tc) α} (x : Fin 7 ⊕ Fin 7) (q : DmaSem sig) (hq : kcell (c, .inr x) = ((c : Thread nD τ), .dma q)) (P : sProp 𝕄)
    (hex : (rd m ρ).expect ((c : Thread nD τ), .dma q) 0 = N)
    (hP : bigSep ((rd (F := F) m ρ).duties ((c : Thread nD τ), .dma q) 0 \ ∅) (fun d => (rd (F := F) m ρ).payload ((c : Thread nD τ), .dma q) 0 d) = P)
    {q' : DmaSem sig} (hq' : q' = q)
    {src dst : Memref sig (c : Thread nD τ).2.kind .vmem S64x512 .f32} {hsrc : src.view.WordExact} {hdst : dst.view.WordExact}
    (hN : dst.view.dmaCredit = N) :
    iprop(records m ρ K ∗ ow c 0 ∗ waitRes (F := F) ((c : Thread nD τ), .dma q))
      ⊢ iprop(((ow c 0 ∗ semVal ((c : Thread nD τ), .dma q) 0 ∗ P) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q' src dst hsrc hdst) k) Q) := by
  subst hq' hP
  unfold ow waitRes
  iintro ⟨#HK, ⟨%W, HO⟩, Hc, Hat⟩ Hk
  ihave #Hinv := (inv_at m ρ K (c, .inr x)) $$ HK
  rw [hq]
  iapply (Rounds.wp_wait_rest_token 𝒱₀ ER (rd m ρ) (c : Thread nD τ) none (κ := K (c, .inr x))
      (wpE_waitDma2_eq 𝒱₀ (c : Thread nD τ) none Set.univ) (Set.mem_univ _) () (O := 0) (W := W) (R := 0) (m := 0) (T := ∅)
      (by rw [Nat.zero_add, hex, hN])) $$ [Hc HO Hat]
  · isplitr; · iexact Hinv
    isplitl [Hc]; · rw [hN]; iexact Hc
    isplitl [HO]; · iexact HO
    isplitr; · rw [MayWait_zero]; iempintro
    iexact Hat
  iintro ⟨HO, Hat, -, Hp⟩
  imod (Rounds.cell_close ER (rd m ρ) (Set.mem_univ (K (c, .inr x))) (fun h => h) (R := 0 + 1) (duties_later m ρ ((c : Thread nD τ), .dma q'))) $$ [Hat] with Hz
  · isplitr; · iexact Hinv
    iexact Hat
  iapply Hk
  isplitl [HO]; · iexists _; iexact HO
  isplitl [Hz] <;> iassumption

/-- The wait for the arrival in slot `s`. -/
theorem recv_step {α : Type} {Q : α → sProp 𝕄} {k : PUnit → Prog (TpuEff nD τ sig (Elt F) Λ₀ .tc) α} (s : Fin 7) {q' : DmaSem sig} (hq' : q' = recvS s)
    {src dst : Memref sig (c : Thread nD τ).2.kind .vmem S64x512 .f32} {hsrc : src.view.WordExact} {hdst : dst.view.WordExact}
    (hN : dst.view.dmaCredit = N) :
    iprop(records m ρ K ∗ ow c 0 ∗ waitRes (F := F) (recvCell c s))
      ⊢ iprop(((ow c 0 ∗ semVal (recvCell c s) 0 ∗ slotPts c s (landed m ρ c)) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q' src dst hsrc hdst) k) Q) :=
  wait_step m ρ K c (.inr s) (recvS s) rfl _ (expect_recv m ρ c s) (rest_recv m ρ c s) hq' hN

/-- The wait for the departure of transfer `j`. -/
theorem depart_step {α : Type} {Q : α → sProp 𝕄} {k : PUnit → Prog (TpuEff nD τ sig (Elt F) Λ₀ .tc) α} (j : Fin 7) {q' : DmaSem sig} (hq' : q' = sendS j)
    {src dst : Memref sig (c : Thread nD τ).2.kind .vmem S64x512 .f32} {hsrc : src.view.WordExact} {hdst : dst.view.WordExact}
    (hN : dst.view.dmaCredit = N) :
    iprop(records m ρ K ∗ ow c 0 ∗ waitRes (F := F) (sendCell c j))
      ⊢ iprop(((ow c 0 ∗ semVal (sendCell c j) 0 ∗ rowPts c (nx c j) (part m ρ c)) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q' src dst hsrc hdst) k) Q) :=
  wait_step m ρ K c (.inl j) (sendS j) rfl _ (expect_send m ρ c j) (rest_send m ρ c j) hq' hN

/-- What the load of slot `s` reads. -/
def slotVec (s : Fin 7) : Vec F S1x64x512 .f32 := rM.view.readAt (Elt F) (slotR s).toLoadRect (landed m ρ c)
/-- What the load of the device's own rows reads. -/
def ownVec : Vec F S64x512 .f32 := pM.view.readAt (Elt F) (rowR c).toLoadRect (part m ρ c)

/-- The load of slot `s`. -/
theorem slot_load {α : Type} {Q : α → sProp 𝕄} (s : Fin 7) {off : Fin 3 → ℕ} (ho : off = ![s.val, 0, 0]) {h : ∀ a, off a + S1x64x512.size a ≤ S7x64x512.size a}
    {hl : rM.view.LoadsAt (Rect.unit (s := S7x64x512) off S1x64x512.size h).toLoadRect}
    {k : Vec F S1x64x512 .f32 → Prog (TpuEff nD τ sig (Elt F) Λ₀ .tc) α} :
    slotPts c s (landed m ρ c)
      ⊢ iprop((slotPts c s (landed m ρ c) -∗ wp frame (wpE (defs₀ (F := F)) 𝒱₀ (c : Thread nD τ) none) Set.univ (k (slotVec m ρ c s)) Q)
        -∗ wp frame (wpE (defs₀ (F := F)) 𝒱₀ (c : Thread nD τ) none) Set.univ (.op (.load rM (Rect.unit (s := S7x64x512) off S1x64x512.size h).toLoadRect hl) k) Q) := by
  subst ho
  unfold slotPts
  refine wp_load 𝒱₀ (c : Thread nD τ) none Set.univ (m := rM) (r := (slotR s).toLoadRect) (hl := hl) (f := landed m ρ c) ?_
  rw [slotM_set]
  exact (Finset.map_refl).le

/-- The load of the device's own rows. -/
theorem own_load {α : Type} {Q : α → sProp 𝕄} {off : Fin 2 → ℕ} (ho : off = ![64 * c.val, 0]) {h : ∀ a, off a + S64x512.size a ≤ S512x512.size a}
    {hl : pM.view.LoadsAt (Rect.unit (s := S512x512) off S64x512.size h).toLoadRect}
    {k : Vec F S64x512 .f32 → Prog (TpuEff nD τ sig (Elt F) Λ₀ .tc) α} :
    rowPts c c (part m ρ c)
      ⊢ iprop((rowPts c c (part m ρ c) -∗ wp frame (wpE (defs₀ (F := F)) 𝒱₀ (c : Thread nD τ) none) Set.univ (k (ownVec m ρ c)) Q)
        -∗ wp frame (wpE (defs₀ (F := F)) 𝒱₀ (c : Thread nD τ) none) Set.univ (.op (.load pM (Rect.unit (s := S512x512) off S64x512.size h).toLoadRect hl) k) Q) := by
  subst ho
  unfold rowPts
  refine wp_load 𝒱₀ (c : Thread nD τ) none Set.univ (m := pM) (r := (rowR c).toLoadRect) (hl := hl) (f := part m ρ c) ?_
  rw [rowM_set]
  exact (Finset.map_refl).le

end Steps

/-! ## The names under which the program speaks of the memrefs and the semaphores -/

theorem sendS_eq (i : Fin 7) (o : Fin 1 → ℕ) (ho : o = ![i.val]) (h : ∀ a, o a + S1.size a ≤ S7.size a) :
    ((cc0_scratch2.slice (Rect.unit (s := S7) o S1.size h)).squeeze S_ squeezes_S1_S_).sem = sendS i := by
  subst ho; revert h; revert i; decide
theorem recvS_eq (i : Fin 7) (o : Fin 1 → ℕ) (ho : o = ![i.val]) (h : ∀ a, o a + S1.size a ≤ S7.size a) :
    ((cc0_scratch3.slice (Rect.unit (s := S7) o S1.size h)).squeeze S_ squeezes_S1_S_).sem = recvS i := by
  subst ho; revert h; revert i; decide
theorem rowM_eq (b : Fin 8) (o : Fin 2 → ℕ) (ho : o = ![64 * b.val, 0]) (h : ∀ a, o a + S64x512.size a ≤ S512x512.size a) :
    pM.slice (Rect.unit (s := S512x512) o S64x512.size h) (fun _ => rfl) = rowM b := by subst ho; rfl
theorem slotM_eq (s : Fin 7) (o : Fin 3 → ℕ) (ho : o = ![s.val, 0, 0]) (h : ∀ a, o a + S1x64x512.size a ≤ S7x64x512.size a) :
    (rM.slice (Rect.unit (s := S7x64x512) o S1x64x512.size h) (fun _ => rfl)).squeeze S64x512 squeezes_S1x64x512_S64x512 = slotM s := by
  subst ho; rfl

end Cert.K

end
-- ==== Proof.Body.lean ====
/-
The body of one device, from what it starts with to what it leaves: its contribution and the filled receive
buffer, its fifteen semaphores at zero, and its result.
-/
module

public import proofs.«01_k».proof.Proof.Steps
public import proofs.«01_k».proof.Proof.Gen.KernelIdeal.Points

@[expose] public section

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device `c`'s result: its own rows of its contribution plus the seven received blocks. -/
def outAt (c : Dev nD) : (cc0_stg4_0 : Ref sig .tc).ty.Contents (Elt F) := sumVal (ownVec m ρ c) (slotVec m ρ c)

/-- The positions at round 0 of the device's own cells, and the duties that it pays. -/
def lin (c : Dev nD) : sProp 𝕄 :=
  iprop((atPos ER (barCell c) 0 ∅ 0 ∗ (bigSep Finset.univ fun j : Fin 7 => atPos ER (sendCell c j) 0 ∅ 0)
      ∗ (bigSep Finset.univ fun s : Fin 7 => atPos ER (recvCell c s) 0 ∅ 0))
    ∗ (bigSep Finset.univ fun j : Fin 7 => dutyTok ER (barCell (nx c j)) 0 j)
    ∗ (bigSep Finset.univ fun j : Fin 7 => dutyTok ER (sendCell c j) 0 0)
    ∗ (bigSep Finset.univ fun j : Fin 7 => dutyTok ER (recvCell (nx c j) (opp j)) 0 0))

def ghost (K : Dev nD × Slot15 → ℕ) (c : Dev nD) : sProp 𝕄 := iprop(records m ρ K ∗ lin (F := F) c)

/-- The credit that the device's waits on its barrier and its receive semaphores use. -/
def creds (c : Dev nD) : sProp 𝕄 :=
  iprop(cred (tallyAt (barCell c) () 7) ∗ bigSep Finset.univ fun s : Fin 7 => cred (tallyAt (recvCell c s) () N))

def start (c : Dev nD) : sProp 𝕄 := iprop((∃ K, ghost m ρ K c) ∗ creds (F := F) c ∗ levAts L lv)

def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
def Φ₁ (c : Dev nD) : sProp 𝕄 :=
  iprop((((c : Thread nD τ).loc cc0_scratch0) ↦{fullShare} part m ρ c) ∗ (((c : Thread nD τ).loc cc0_scratch1) ↦{fullShare} landed m ρ c)
    ∗ semVal (barCell c) 0 ∗ (bigSep Finset.univ fun j : Fin 7 => semVal (sendCell c j) 0) ∗ (bigSep Finset.univ fun s : Fin 7 => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => ristg m ρ c
    | ⟨3, _⟩ => ewstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × Slot15 → ℕ)

def bodyPre (c : Dev nD) : sProp 𝕄 :=
  iprop((ghost m ρ K c ∗ creds (F := F) c ∗ levAts L lv ∗ (∃ f, ((c : Thread nD τ).loc cc0_scratch0) ↦{fullShare} f) ∗ (∃ f, ((c : Thread nD τ).loc cc0_scratch1) ↦{fullShare} f))
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (rwstg m ρ c)
    ∗ stg c cc0_stg2_0 (ristg m ρ c) ∗ stg c cc0_stg3_0 (ewstg m ρ c) ∗ stg c cc0_stg4_0 (outAt m ρ c))

/-! ## Regrouping what the device holds, step by step -/

/-- The receive buffer and the barrier duties are what the seven signals take. -/
theorem sigRes_intro (c : Dev nD) (f : Buf (Elt F) ((c : Thread nD τ).loc cc0_scratch1)) :
    iprop((((c : Thread nD τ).loc cc0_scratch1) ↦{fullShare} f) ∗ bigSep Finset.univ fun j : Fin 7 => dutyTok ER (barCell (nx c j)) 0 j)
      ⊢ (bigSep Finset.univ fun j : Fin 7 => sigRes (F := F) c j : sProp 𝕄) := by
  rw [slots_split]
  unfold sigRes
  rw [bigSep_sep']
  iintro ⟨Hs, Ht⟩
  isplitl [Ht]; · iexact Ht
  iapply (show (bigSep Finset.univ fun s : Fin 7 => slotPts c s f : sProp 𝕄) ⊢ bigSep Finset.univ fun s : Fin 7 => iprop(∃ f, slotPts c s f) from
    bigSep_mono fun s _ => exists_intro (Φ := fun f => slotPts c s f) f)
  iexact Hs

/-- The contribution, the lent slots and the duties of the transfers are the device's own rows and what the seven
    transfers take. -/
theorem sendRes_intro (c : Dev nD) :
    iprop((((c : Thread nD τ).loc cc0_scratch0) ↦{fullShare} part m ρ c) ∗ (bigSep Finset.univ fun j : Fin 7 => barPay (F := F) c j)
        ∗ (bigSep Finset.univ fun j : Fin 7 => dutyTok ER (sendCell c j) 0 0)
        ∗ (bigSep Finset.univ fun j : Fin 7 => dutyTok ER (recvCell (nx c j) (opp j)) 0 0))
      ⊢ (iprop(rowPts c c (part m ρ c) ∗ bigSep Finset.univ fun j : Fin 7 => sendRes m ρ c j) : sProp 𝕄) := by
  rw [rows_split, bigSep_devs c, bigSep_univ_equiv oppEquiv (fun j : Fin 7 => barPay (F := F) c j)]
  unfold sendRes
  simp only [bigSep_sep']
  iintro ⟨⟨Ho, Hr⟩, Hb, Hs, Hv⟩
  isplitl [Ho]; · iexact Ho
  isplitl [Hr]; · iexact Hr
  isplitl [Hb]; · iexact Hb
  isplitl [Hs] <;> iassumption

omit [FloatOps F] in
theorem waitRes_intro (g : Fin 7 → GSem nD τ sig) :
    iprop((bigSep Finset.univ fun s : Fin 7 => cred (tallyAt (g s) () N)) ∗ bigSep Finset.univ fun s : Fin 7 => atPos ER (g s) 0 ∅ 0)
      ⊢ (bigSep Finset.univ fun s : Fin 7 => waitRes (F := F) (g s) : sProp 𝕄) := by
  unfold waitRes; rw [bigSep_sep']

omit [FloatOps F] in
/-- A rule with three premises, to be given them one by one. -/
theorem curry3 {P A B C : sProp 𝕄} (h : iprop(P ∗ A ∗ B) ⊢ C) : P ⊢ iprop(A -∗ B -∗ C) := by
  iintro HP HA HB
  iapply h
  isplitl [HP]; · iexact HP
  isplitl [HA] <;> iassumption

theorem hz2 : (![0, 0] : Fin 2 → Nat) = fun _ => 0 := funext fun a => by fin_cases a <;> rfl

theorem read_x (h) (f : (cc0_stg0_0 : Ref sig .tc).ty.Contents (Elt F)) :
    xM.view.readAt (Elt F) (Rect.unit (s := S512x256) ![0, 0] S512x256.size h).toLoadRect f = f := Memref.readAt_unit_zero (Elt F) cc0_stg0_0 hz2 _ f
theorem read_rw (h) (f : (cc0_stg1_0 : Ref sig .tc).ty.Contents (Elt F)) :
    rwM.view.readAt (Elt F) (Rect.unit (s := S256x32) ![0, 0] S256x32.size h).toLoadRect f = f := Memref.readAt_unit_zero (Elt F) cc0_stg1_0 hz2 _ f
theorem read_ri (h) (f : (cc0_stg2_0 : Ref sig .tc).ty.Contents (Elt F)) :
    riM.view.readAt (Elt F) (Rect.unit (s := S512x2) ![0, 0] S512x2.size h).toLoadRect f = f := Memref.readAt_unit_zero (Elt F) cc0_stg2_0 hz2 _ f
theorem write_p (h) (f w : (cc0_scratch0 : Ref sig .tc).ty.Contents (Elt F)) :
    (pM.access (Rect.unit (s := S512x512) ![0, 0] S512x512.size h) : View sig .tc _ _ _).write (Elt F) f w Finset.univ = w :=
  Memref.write_access_unit_zero_univ (Elt F) cc0_scratch0 hz2 _ f w
theorem write_o (h) (f w : (cc0_stg4_0 : Ref sig .tc).ty.Contents (Elt F)) :
    (oM.access (Rect.unit (s := S64x512) ![0, 0] S64x512.size h) : View sig .tc _ _ _).write (Elt F) f w Finset.univ = w :=
  Memref.write_access_unit_zero_univ (Elt F) cc0_stg4_0 hz2 _ f w

set_option maxHeartbeats 4000000 in
set_option maxRecDepth 8000 in
/-- The body of device `c`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) rwM (Memref.isWhole_whole _) riM (Memref.isWhole_whole _) ewM (Memref.isWhole_whole _)
            oM (Memref.isWhole_whole _) pM (Memref.isWhole_whole _) rM (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost lin creds
  iintro ⟨⟨⟨⟨#HK, ⟨HatB, HatS, HatV⟩, HtB, HtS, HtV⟩, ⟨HcB, HcV⟩, #Hlev, ⟨%fp, Hp⟩, ⟨%fr, Hr⟩⟩,
    Ho, ⟨%d0, %g0, %hg0, Hx⟩, ⟨%d1, %g1, %hg1, Hw⟩, ⟨%d2, %g2, %hg2, Hi⟩, ⟨%d3, %g3, %hg3, He⟩, ⟨%d4, %g4, %hg4, Hout⟩⟩, Hk⟩
  have hx : g0 = xstg m ρ c := by rw [hg0]; unfold Dat.before; rw [if_pos (fetch0_0 t₀)]; rfl
  have hw : g1 = rwstg m ρ c := by rw [hg1]; unfold Dat.before; rw [if_pos (fetch0_1 t₀)]; rfl
  have hi : g2 = ristg m ρ c := by rw [hg2]; unfold Dat.before; rw [if_pos (fetch0_2 t₀)]; rfl
  have he : g3 = ewstg m ρ c := by rw [hg3]; unfold Dat.before; rw [if_pos (fetch0_3 t₀)]; rfl
  subst hx hw hi he
  unfold Dat.owesAt Pipeline.owesWithin
  icases Ho with ⟨%W, %hW, HO⟩
  rw [show (dats m ρ 0 c).owed t₀.castSucc = BO c [0, 1, 2, 3, 4, 5, 6] from rfl]
  ihave HO := (show owes (c : Thread nD τ) (BO c [0, 1, 2, 3, 4, 5, 6]) W ⊢ ow (F := F) c (BO c [0, 1, 2, 3, 4, 5, 6]) from by
    unfold ow; exact exists_intro (Φ := fun W => owes (c : Thread nD τ) (BO c [0, 1, 2, 3, 4, 5, 6]) W) W) $$ HO
  -- the seven signals
  ihave Hsig := (sigRes_intro c fr) $$ [Hr HtB]
  · isplitl [Hr] <;> iassumption
  ihave Hsig := (Entails.of_eq (bigSep_fin7 _)) $$ Hsig
  icases Hsig with ⟨G0, G1, G2, G3, G4, G5, G6⟩
  iapply (curry3 (sig_step m ρ K c 0 [1, 2, 3, 4, 5, 6] _ (Fin.ext (k0_dev1_eq c)) (by decide))) $$ HK HO G0; iintro HO
  iapply (curry3 (sig_step m ρ K c 1 [2, 3, 4, 5, 6] _ (Fin.ext (k0_dev2_eq c)) (by decide))) $$ HK HO G1; iintro HO
  iapply (curry3 (sig_step m ρ K c 2 [3, 4, 5, 6] _ (Fin.ext (k0_dev3_eq c)) (by decide))) $$ HK HO G2; iintro HO
  iapply (curry3 (sig_step m ρ K c 3 [4, 5, 6] _ (Fin.ext (k0_dev4_eq c)) (by decide))) $$ HK HO G3; iintro HO
  iapply (curry3 (sig_step m ρ K c 4 [5, 6] _ (Fin.ext (k0_dev5_eq c)) (by decide))) $$ HK HO G4; iintro HO
  iapply (curry3 (sig_step m ρ K c 5 [6] _ (Fin.ext (k0_dev6_eq c)) (by decide))) $$ HK HO G5; iintro HO
  iapply (curry3 (sig_step m ρ K c 6 [] _ (Fin.ext (k0_dev7_eq c)) (by decide))) $$ HK HO G6; iintro HO
  -- the wait for the seven signals that come
  iapply (bar_step m ρ K c (by decide)) $$ [HO HcB HatB]
  · isplitr; · iexact HK
    isplitl [HO]; · iexact HO
    isplitr; · iexact Hlev
    isplitl [HcB] <;> iassumption
  iintro ⟨HO, HzB, Hbar⟩
  -- the loads, and the store of the contribution
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hw; iintro Hw
  iapply (wp_load 𝒱₀ (c : Thread nD τ) none Set.univ (m := riM) (Finset.subset_univ _)) $$ Hi; iintro Hi
  rw [read_x, read_rw, read_ri]
  iapply (wp_load 𝒱₀ (c : Thread nD τ) none Set.univ (m := ewM) (Finset.subset_univ _)) $$ He; iintro He
  iapply (wp_load 𝒱₀ (c : Thread nD τ) none Set.univ (m := ewM) (Finset.subset_univ _)) $$ He; iintro He
  iapply (wp_load 𝒱₀ (c : Thread nD τ) none Set.univ (m := ewM) (Finset.subset_univ _)) $$ He; iintro He
  iapply (wp_load 𝒱₀ (c : Thread nD τ) none Set.univ (m := ewM) (Finset.subset_univ _)) $$ He; iintro He
  iapply (wp_load 𝒱₀ (c : Thread nD τ) none Set.univ (m := pM) (Finset.subset_univ _)) $$ Hp; iintro Hp
  iapply (wp_store 𝒱₀ (c : Thread nD τ) none Set.univ (m := pM) (r := Rect.unit (s := S512x512) ![0, 0] S512x512.size inb_S512x512_S512x512_0_0) (Mk := Finset.univ) (Finset.subset_univ _)) $$ Hp; iintro Hp
  rw [write_p]
  -- the seven transfers
  ihave Hsend := (sendRes_intro m ρ c) $$ [Hp Hbar HtS HtV]
  · isplitl [Hp]; · iexact Hp
    isplitl [Hbar]; · iexact Hbar
    isplitl [HtS] <;> iassumption
  icases Hsend with ⟨Hown, Hsend⟩
  ihave Hsend := (Entails.of_eq (bigSep_fin7 _)) $$ Hsend
  icases Hsend with ⟨G0, G1, G2, G3, G4, G5, G6⟩
  iapply (curry3 (send_step m ρ K c 0 [1, 2, 3, 4, 5, 6] _ (Fin.ext (k0_dev8_eq c)) (rowM_eq (nx c 0) (k0_off1 c 1#32) (k0_off1_eq c 0) (k0_off1_inb c 0))
    (slotM_eq (opp 0) ![6, 0, 0] rfl inb_S7x64x512_S1x64x512_6_0_0) (sendS_eq 0 ![0] rfl inb_S7_S1_0) (recvS_eq (opp 0) ![6] rfl inb_S7_S1_6))) $$ HK HO G0
  iintro ⟨HO, C0⟩
  iapply (curry3 (send_step m ρ K c 1 [2, 3, 4, 5, 6] _ (Fin.ext (k0_dev9_eq c)) (rowM_eq (nx c 1) (k0_off1 c 2#32) (k0_off1_eq c 1) (k0_off1_inb c 1))
    (slotM_eq (opp 1) ![5, 0, 0] rfl inb_S7x64x512_S1x64x512_5_0_0) (sendS_eq 1 ![1] rfl inb_S7_S1_1) (recvS_eq (opp 1) ![5] rfl inb_S7_S1_5))) $$ HK HO G1
  iintro ⟨HO, C1⟩
  iapply (curry3 (send_step m ρ K c 2 [3, 4, 5, 6] _ (Fin.ext (k0_dev10_eq c)) (rowM_eq (nx c 2) (k0_off1 c 3#32) (k0_off1_eq c 2) (k0_off1_inb c 2))
    (slotM_eq (opp 2) ![4, 0, 0] rfl inb_S7x64x512_S1x64x512_4_0_0) (sendS_eq 2 ![2] rfl inb_S7_S1_2) (recvS_eq (opp 2) ![4] rfl inb_S7_S1_4))) $$ HK HO G2
  iintro ⟨HO, C2⟩
  iapply (curry3 (send_step m ρ K c 3 [4, 5, 6] _ (Fin.ext (k0_dev11_eq c)) (rowM_eq (nx c 3) (k0_off1 c 4#32) (k0_off1_eq c 3) (k0_off1_inb c 3))
    (slotM_eq (opp 3) ![3, 0, 0] rfl inb_S7x64x512_S1x64x512_3_0_0) (sendS_eq 3 ![3] rfl inb_S7_S1_3) (recvS_eq (opp 3) ![3] rfl inb_S7_S1_3))) $$ HK HO G3
  iintro ⟨HO, C3⟩
  iapply (curry3 (send_step m ρ K c 4 [5, 6] _ (Fin.ext (k0_dev12_eq c)) (rowM_eq (nx c 4) (k0_off1 c 5#32) (k0_off1_eq c 4) (k0_off1_inb c 4))
    (slotM_eq (opp 4) ![2, 0, 0] rfl inb_S7x64x512_S1x64x512_2_0_0) (sendS_eq 4 ![4] rfl inb_S7_S1_4) (recvS_eq (opp 4) ![2] rfl inb_S7_S1_2))) $$ HK HO G4
  iintro ⟨HO, C4⟩
  iapply (curry3 (send_step m ρ K c 5 [6] _ (Fin.ext (k0_dev13_eq c)) (rowM_eq (nx c 5) (k0_off1 c 6#32) (k0_off1_eq c 5) (k0_off1_inb c 5))
    (slotM_eq (opp 5) ![1, 0, 0] rfl inb_S7x64x512_S1x64x512_1_0_0) (sendS_eq 5 ![5] rfl inb_S7_S1_5) (recvS_eq (opp 5) ![1] rfl inb_S7_S1_1))) $$ HK HO G5
  iintro ⟨HO, C5⟩
  iapply (curry3 (send_step m ρ K c 6 [] _ (Fin.ext (k0_dev14_eq c)) (rowM_eq (nx c 6) (k0_off1 c 7#32) (k0_off1_eq c 6) (k0_off1_inb c 6))
    (slotM_eq (opp 6) ![0, 0, 0] rfl inb_S7x64x512_S1x64x512_0_0_0) (sendS_eq 6 ![6] rfl inb_S7_S1_6) (recvS_eq (opp 6) ![0] rfl inb_S7_S1_0))) $$ HK HO G6
  iintro ⟨HO, C6⟩
  rw [show XO c [] = 0 from rfl]
  -- the load of the device's own rows
  iapply (own_load m ρ c (k0_off2_eq c)) $$ Hown; iintro Hown
  -- the seven arrivals
  ihave Hrecv := (waitRes_intro (F := F) (recvCell c)) $$ [HcV HatV]
  · isplitl [HcV] <;> iassumption
  ihave Hrecv := (Entails.of_eq (bigSep_fin7 _)) $$ Hrecv
  icases Hrecv with ⟨G0, G1, G2, G3, G4, G5, G6⟩
  iapply (curry3 (recv_step m ρ K c 6 (recvS_eq 6 ![6] rfl inb_S7_S1_6) (credit_slot 6))) $$ HK HO G6; iintro ⟨HO, V6, S6⟩
  iapply (slot_load m ρ c 6 (off := ![6, 0, 0]) rfl) $$ S6; iintro S6
  iapply (curry3 (recv_step m ρ K c 5 (recvS_eq 5 ![5] rfl inb_S7_S1_5) (credit_slot 5))) $$ HK HO G5; iintro ⟨HO, V5, S5⟩
  iapply (slot_load m ρ c 5 (off := ![5, 0, 0]) rfl) $$ S5; iintro S5
  iapply (curry3 (recv_step m ρ K c 4 (recvS_eq 4 ![4] rfl inb_S7_S1_4) (credit_slot 4))) $$ HK HO G4; iintro ⟨HO, V4, S4⟩
  iapply (slot_load m ρ c 4 (off := ![4, 0, 0]) rfl) $$ S4; iintro S4
  iapply (curry3 (recv_step m ρ K c 3 (recvS_eq 3 ![3] rfl inb_S7_S1_3) (credit_slot 3))) $$ HK HO G3; iintro ⟨HO, V3, S3⟩
  iapply (slot_load m ρ c 3 (off := ![3, 0, 0]) rfl) $$ S3; iintro S3
  iapply (curry3 (recv_step m ρ K c 2 (recvS_eq 2 ![2] rfl inb_S7_S1_2) (credit_slot 2))) $$ HK HO G2; iintro ⟨HO, V2, S2⟩
  iapply (slot_load m ρ c 2 (off := ![2, 0, 0]) rfl) $$ S2; iintro S2
  iapply (curry3 (recv_step m ρ K c 1 (recvS_eq 1 ![1] rfl inb_S7_S1_1) (credit_slot 1))) $$ HK HO G1; iintro ⟨HO, V1, S1⟩
  iapply (slot_load m ρ c 1 (off := ![1, 0, 0]) rfl) $$ S1; iintro S1
  iapply (curry3 (recv_step m ρ K c 0 (recvS_eq 0 ![0] rfl inb_S7_S1_0) (credit_slot 0))) $$ HK HO G0; iintro ⟨HO, V0, S0⟩
  iapply (slot_load m ρ c 0 (off := ![0, 0, 0]) rfl) $$ S0; iintro S0
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S64x512) ![0, 0] S64x512.size inb_S64x512_S64x512_0_0) (Mk := Finset.univ) (Finset.subset_univ _)) $$ Hout; iintro Hout
  rw [write_o]
  -- the seven departures
  ihave Hdep := (waitRes_intro (F := F) (sendCell c)) $$ [C0 C1 C2 C3 C4 C5 C6 HatS]
  · isplitl [C0 C1 C2 C3 C4 C5 C6]
    · rw [bigSep_fin7]
      isplitl [C0]; · iexact C0
      isplitl [C1]; · iexact C1
      isplitl [C2]; · iexact C2
      isplitl [C3]; · iexact C3
      isplitl [C4]; · iexact C4
      isplitl [C5] <;> iassumption
    iexact HatS
  ihave Hdep := (Entails.of_eq (bigSep_fin7 _)) $$ Hdep
  icases Hdep with ⟨G0, G1, G2, G3, G4, G5, G6⟩
  iapply (curry3 (depart_step m ρ K c 0 (sendS_eq 0 ![0] rfl inb_S7_S1_0) ((congrArg (fun v => v.view.dmaCredit) (rowM_eq (nx c 0) (k0_off1 c 1#32) (k0_off1_eq c 0) (k0_off1_inb c 0))).trans (credit_row _)))) $$ HK HO G0
  iintro ⟨HO, Z0, R0⟩
  iapply (curry3 (depart_step m ρ K c 1 (sendS_eq 1 ![1] rfl inb_S7_S1_1) ((congrArg (fun v => v.view.dmaCredit) (rowM_eq (nx c 1) (k0_off1 c 2#32) (k0_off1_eq c 1) (k0_off1_inb c 1))).trans (credit_row _)))) $$ HK HO G1
  iintro ⟨HO, Z1, R1⟩
  iapply (curry3 (depart_step m ρ K c 2 (sendS_eq 2 ![2] rfl inb_S7_S1_2) ((congrArg (fun v => v.view.dmaCredit) (rowM_eq (nx c 2) (k0_off1 c 3#32) (k0_off1_eq c 2) (k0_off1_inb c 2))).trans (credit_row _)))) $$ HK HO G2
  iintro ⟨HO, Z2, R2⟩
  iapply (curry3 (depart_step m ρ K c 3 (sendS_eq 3 ![3] rfl inb_S7_S1_3) ((congrArg (fun v => v.view.dmaCredit) (rowM_eq (nx c 3) (k0_off1 c 4#32) (k0_off1_eq c 3) (k0_off1_inb c 3))).trans (credit_row _)))) $$ HK HO G3
  iintro ⟨HO, Z3, R3⟩
  iapply (curry3 (depart_step m ρ K c 4 (sendS_eq 4 ![4] rfl inb_S7_S1_4) ((congrArg (fun v => v.view.dmaCredit) (rowM_eq (nx c 4) (k0_off1 c 5#32) (k0_off1_eq c 4) (k0_off1_inb c 4))).trans (credit_row _)))) $$ HK HO G4
  iintro ⟨HO, Z4, R4⟩
  iapply (curry3 (depart_step m ρ K c 5 (sendS_eq 5 ![5] rfl inb_S7_S1_5) ((congrArg (fun v => v.view.dmaCredit) (rowM_eq (nx c 5) (k0_off1 c 6#32) (k0_off1_eq c 5) (k0_off1_inb c 5))).trans (credit_row _)))) $$ HK HO G5
  iintro ⟨HO, Z5, R5⟩
  iapply (curry3 (depart_step m ρ K c 6 (sendS_eq 6 ![6] rfl inb_S7_S1_6) ((congrArg (fun v => v.view.dmaCredit) (rowM_eq (nx c 6) (k0_off1 c 7#32) (k0_off1_eq c 6) (k0_off1_inb c 6))).trans (credit_row _)))) $$ HK HO G6
  iintro ⟨HO, Z6, R6⟩
  rw [wp_ret]; imodintro
  iapply Hk
  unfold bodyPost Φ₁ Dat.owesAt Pipeline.owesWithin
  rw [show (dats m ρ 0 c).owed t₀.succ = 0 from rfl, rows_split, bigSep_devs c, slots_split]
  isplitl [Hown R0 R1 R2 R3 R4 R5 R6 S0 S1 S2 S3 S4 S5 S6 HzB Z0 Z1 Z2 Z3 Z4 Z5 Z6 V0 V1 V2 V3 V4 V5 V6]
  · isplitl [Hown R0 R1 R2 R3 R4 R5 R6]
    · isplitl [Hown]; · iexact Hown
      rw [bigSep_fin7]
      isplitl [R0]; · iexact R0
      isplitl [R1]; · iexact R1
      isplitl [R2]; · iexact R2
      isplitl [R3]; · iexact R3
      isplitl [R4]; · iexact R4
      isplitl [R5] <;> iassumption
    isplitl [S0 S1 S2 S3 S4 S5 S6]
    · rw [bigSep_fin7]
      isplitl [S0]; · iexact S0
      isplitl [S1]; · iexact S1
      isplitl [S2]; · iexact S2
      isplitl [S3]; · iexact S3
      isplitl [S4]; · iexact S4
      isplitl [S5] <;> iassumption
    isplitl [HzB]; · iexact HzB
    isplitl [Z0 Z1 Z2 Z3 Z4 Z5 Z6]
    · rw [bigSep_fin7]
      isplitl [Z0]; · iexact Z0
      isplitl [Z1]; · iexact Z1
      isplitl [Z2]; · iexact Z2
      isplitl [Z3]; · iexact Z3
      isplitl [Z4]; · iexact Z4
      isplitl [Z5] <;> iassumption
    · rw [bigSep_fin7]
      isplitl [V0]; · iexact V0
      isplitl [V1]; · iexact V1
      isplitl [V2]; · iexact V2
      isplitl [V3]; · iexact V3
      isplitl [V4]; · iexact V4
      isplitl [V5] <;> iassumption
  unfold ow
  icases HO with ⟨%W', HO⟩
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 8000 in
/-- The pipeline's obligation for the body of device `c`. -/
theorem body_obligation (c : Dev nD) : BodyObligation (dats (F := F) m ρ 0 c) (defs₀ (F := F)) 𝒱₀ () Set.univ := fun t => by
  rw [fin_N t, bigSep_W, bigSep_W]
  simp only [owns_whole]
  show bodyPre' m ρ c ⊢ wp frame (wpE (defs₀ (F := F)) 𝒱₀ c none) Set.univ
    (cc0_body xM (Memref.isWhole_whole _) rwM (Memref.isWhole_whole _) riM (Memref.isWhole_whole _) ewM (Memref.isWhole_whole _)
      oM (Memref.isWhole_whole _) pM (Memref.isWhole_whole _) rM (Memref.isWhole_whole _) cc0_scratch2 cc0_scratch3) (fun _ => bodyPost m ρ c)
  unfold bodyPre' Φ₀ start
  iintro ⟨⟨⟨⟨%K, Hg⟩, Hc, Hl⟩, Hp, Hr⟩, Hrest⟩
  iapply (sound_body m ρ K c fun _ => bodyPost m ρ c)
  unfold bodyPre
  isplitr []
  · isplitl [Hg Hc Hl Hp Hr]
    · isplitl [Hg]; · iexact Hg
      isplitl [Hc]; · iexact Hc
      isplitl [Hl]; · iexact Hl
      isplitl [Hp] <;> iassumption
    iexact Hrest
  · iintro H; iexact H

end Cert.K

end
-- ==== Proof.Launch.lean ====
/-
The launch: every cell's invariant, the duties dealt to the devices that pay them, the credits that the devices
start with, and the run of the whole program from any memory with zero counters.
-/
module

public import proofs.«01_k».proof.Proof.Body
public import proofs.«01_k».proof.Proof.Gen.KernelIdeal.Launch
public import Idealize.ShloMosaic.Lib.Pipeline.CollectiveSegs

@[expose] public section

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties, counted -/

/-- The kernel's own fourteen scoped semaphores: seven to send, seven to receive. -/
abbrev osem : Fin 7 ⊕ Fin 7 → SemLoc sig
  | .inl j => .dma (sendS j)
  | .inr s => .dma (recvS s)

theorem ownSemFacts : Pipeline.OwnSemFacts cfg0.spec osem := by decide

theorem share_eq (c : Dev nD) (w : Fin cfg0.W) : (dats m ρ 0 c).share w = fullShare := by unfold Dat.share; split <;> rfl

/-- A device's semaphores, numbered. -/
def csem : Slot15 → SemLoc sig
  | .inl _ => .reg barS
  | .inr x => osem x
theorem csem_injective : Function.Injective csem := by decide
theorem kcell_eq (c : Dev nD) (k : Slot15) : kcell (c, k) = ((c : Thread nD τ), csem k) := by
  rcases k with _ | (_ | _) <;> rfl
theorem kcell_injective : Function.Injective kcell := by
  rintro ⟨c, k⟩ ⟨c', k'⟩ h
  rw [kcell_eq, kcell_eq] at h
  exact Prod.ext (congrArg (fun g : GSem nD τ sig => g.1.1) h) (csem_injective (congrArg Prod.snd h))
def allCells : Finset (GSem nD τ sig) := Finset.univ.map ⟨kcell, kcell_injective⟩

/-- The duties of a device's own cells: seven of its barrier, one of each send and receive cell. -/
abbrev Tok21 : Type := Fin 7 ⊕ (Fin 7 ⊕ Fin 7)
def tokSlot : Tok21 → Slot15 × Fin 7
  | .inl j => (.inl (), j)
  | .inr x => (.inr x, 0)
theorem tokSlot_injective : Function.Injective tokSlot := by decide
def tokOf (ct : Dev nD × Tok21) : GSem nD τ sig × ℕ × Fin 7 := (kcell (ct.1, (tokSlot ct.2).1), 0, (tokSlot ct.2).2)
theorem tokOf_injective : Function.Injective tokOf := by
  rintro ⟨c, t⟩ ⟨c', t'⟩ h
  have hk : ((c, (tokSlot t).1) : Dev nD × Slot15) = (c', (tokSlot t').1) := kcell_injective (congrArg Prod.fst h)
  have h2 : (tokSlot t).2 = (tokSlot t').2 := congrArg (fun x : GSem nD τ sig × ℕ × Fin 7 => x.2.2) h
  exact Prod.ext (congrArg (fun x => x.1) hk) (tokSlot_injective (Prod.ext (congrArg (fun x => x.2) hk) h2))
def allToks : Finset (GSem nD τ sig × ℕ × Fin 7) := Finset.univ.map ⟨tokOf, tokOf_injective⟩

/-- What the launch starts from: the staging cells' rounds, and these cells'. -/
def u₀ : UU :=
  (initOf (Pipeline.cells cfgs cellOf_inj) (Pipeline.launchToks cfgs cellOf_inj), initOf allCells allToks)

/-- The duties of device `c`'s own cells. -/
def toks (c : Dev nD) : sProp 𝕄 :=
  iprop((bigSep Finset.univ fun j : Fin 7 => dutyTok ER (barCell c) 0 j)
    ∗ (bigSep Finset.univ fun j : Fin 7 => dutyTok ER (sendCell c j) 0 0)
    ∗ (bigSep Finset.univ fun s : Fin 7 => dutyTok ER (recvCell c s) 0 0))

/-- What a device holds when the launch has dealt out its start. -/
def G (c : Dev nD) : sProp 𝕄 :=
  iprop((bigSep Finset.univ fun k : Slot15 => roundState ER (rd m ρ) (kcell (c, k)) 0)
    ∗ (bigSep Finset.univ fun k : Slot15 => iprop(atPos ER (kcell (c, k)) 0 ∅ 0 ∗ reached ER (kcell (c, k)) 0)) ∗ toks c)

/-- What a device holds when the cells' invariants stand and the duties have been dealt to those who pay them. -/
def G' (c : Dev nD) : sProp 𝕄 := iprop(∃ K, ghost m ρ K c)

omit [FloatOps F] in
theorem bigSep_15 (Φ : Slot15 → sProp 𝕄) : bigSep Finset.univ Φ
    = iprop(Φ (.inl ()) ∗ (bigSep Finset.univ fun j : Fin 7 => Φ (.inr (.inl j))) ∗ (bigSep Finset.univ fun s : Fin 7 => Φ (.inr (.inr s)))) := by
  rw [BI.bigSep_univ_sum, BI.bigSep_univ_of_subsingleton (), BI.bigSep_univ_sum]; rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Slot15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun s : Fin 7 => semVal (recvCell c s) 0)) := by
  unfold Pipeline.ownSems0; rw [BI.bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Slot15 => semVal (kcell (c, k)) 0 : sProp 𝕄) := by
  rw [ownSems0_eq, unscopedSems0_eq, bigSep_15]
  iintro ⟨⟨HS, HV⟩, HB⟩
  isplitl [HB]; · iexact HB
  isplitl [HS]; · iexact HS
  iexact HV

/-- A device's semaphores at zero make the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Slot15 => semVal (kcell (c, k)) 0) ∗ bigSep Finset.univ fun k : Slot15 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Whatever is held for each device and number may be counted at the device so many places on. -/
theorem around (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (nx c j) j := by
  rw [BI.bigSep_univ_comm, BI.bigSep_univ_comm fun c j => Φ (nx c j) j]
  exact bigSep_congr fun j _ => bigSep_univ_equiv (ring j) _

/-- The duties that device `c` pays. -/
def payToks (c : Dev nD) : sProp 𝕄 :=
  iprop((bigSep Finset.univ fun j : Fin 7 => dutyTok ER (barCell (nx c j)) 0 j)
    ∗ (bigSep Finset.univ fun j : Fin 7 => dutyTok ER (sendCell c j) 0 0)
    ∗ (bigSep Finset.univ fun j : Fin 7 => dutyTok ER (recvCell (nx c j) (opp j)) 0 0))

omit [FloatOps F] in
theorem toks_around : (bigSep Finset.univ fun c : Dev nD => (toks c : sProp 𝕄)) = bigSep Finset.univ fun c : Dev nD => payToks c := by
  unfold toks payToks
  simp only [bigSep_sep']
  rw [around fun c j => (dutyTok ER (barCell c) 0 j : sProp 𝕄), ← around fun c j => (dutyTok ER (recvCell c (opp j)) 0 0 : sProp 𝕄)]
  rw [show (bigSep Finset.univ fun c : Dev nD => bigSep Finset.univ fun j : Fin 7 => (dutyTok ER (recvCell c j) 0 0 : sProp 𝕄))
      = bigSep Finset.univ fun c : Dev nD => bigSep Finset.univ fun j : Fin 7 => (dutyTok ER (recvCell c (opp j)) 0 0 : sProp 𝕄) from
    bigSep_congr fun c _ => bigSep_univ_equiv oppEquiv _]

theorem ghost_intro (K : Dev nD × Slot15 → ℕ) (c : Dev nD) :
    iprop(records m ρ K ∗ (bigSep Finset.univ fun k : Slot15 => atPos ER (kcell (c, k)) 0 ∅ 0) ∗ payToks c) ⊢ G' m ρ c := by
  unfold G' ghost lin payToks
  rw [bigSep_15]
  iintro H
  iexists K
  iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  simp only [bigSep_sep']
  rw [toks_around, ← bigSep_univ_prod (fun ck : Dev nD × Slot15 => iprop(∃ κ : ℕ, cellInv ER (rd m ρ) κ (kcell ck))),
    ← bigSep_univ_prod (fun ck : Dev nD × Slot15 => (reached ER (kcell ck) 0 : sProp 𝕄))]
  iintro ⟨HI, ⟨Hat, #HR⟩, Htok⟩
  ihave HK := (BI.bigSep_exists_pi Finset.univ (fun (ck : Dev nD × Slot15) (κ : ℕ) => (cellInv ER (rd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · rw [bigSep_sep']
    isplitl [Hat] <;> iassumption

/-- All devices at once: from the semaphores at zero to every device's invariants, positions and duties. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem bar_eq_iff {a b : Dev nD} : Iff (barCell a = barCell b) (a = b) :=
  ⟨fun h => congrArg (fun g : GSem nD τ sig => g.1.1) h, fun h => h ▸ rfl⟩
theorem recv_eq_iff {a b : Dev nD} {s t : Fin 7} : Iff (recvCell a s = recvCell b t) (a = b ∧ s = t) :=
  ⟨fun h => by
    have := kcell_injective (a₁ := (a, .inr (.inr s))) (a₂ := (b, .inr (.inr t))) h
    simpa using this, fun h => by rw [h.1, h.2]⟩
theorem bar_ne_recv {a b : Dev nD} {s : Fin 7} : barCell a ≠ recvCell b s := fun h => by cases congrArg Prod.snd h

/-- How many of the numbers `l` lead from `d` to `c`. -/
def hits (d c : Dev nD) (l : List (Fin 7)) : ℕ := (l.map fun j => if c = nx d j then 1 else 0).sum
/-- How many of the transfers `l` from `d` arrive at slot `s` of `c`. -/
def hitsAt (d c : Dev nD) (s : Fin 7) (l : List (Fin 7)) : ℕ := (l.map fun j => if c = nx d j ∧ s = opp j then 1 else 0).sum

theorem XO_bar (d c : Dev nD) : ∀ l, XO d l (barCell c) () = 0
  | [] => rfl
  | j :: l => by
    unfold XO; rw [Pi.add_apply, Finsupp.add_apply, XO_bar d c l, tallyAt_ne_cell bar_ne_recv]; rfl
theorem XO_recv (d c : Dev nD) (s : Fin 7) : ∀ l, XO d l (recvCell c s) () = N * hitsAt d c s l
  | [] => rfl
  | j :: l => by
    unfold XO
    rw [Pi.add_apply, Finsupp.add_apply, XO_recv d c s l, tallyAt_apply]
    simp only [hitsAt, List.map_cons, List.sum_cons, recv_eq_iff, and_true]
    split <;> simp [Nat.mul_add, Nat.add_comm]
theorem BO_bar (d c : Dev nD) : ∀ l, BO d l (barCell c) () = hits d c l
  | [] => XO_bar d c _
  | j :: l => by
    unfold BO
    rw [Pi.add_apply, Finsupp.add_apply, BO_bar d c l, tallyAt_apply]
    simp only [hits, List.map_cons, List.sum_cons, bar_eq_iff, and_true]
    exact Nat.add_comm _ _
theorem BO_recv (d c : Dev nD) (s : Fin 7) : ∀ l, BO d l (recvCell c s) () = N * hitsAt d c s all7
  | [] => XO_recv d c s _
  | j :: l => by
    unfold BO; rw [Pi.add_apply, Finsupp.add_apply, BO_recv d c s l, tallyAt_ne_cell bar_ne_recv.symm]; rfl

theorem hits_sum (c : Dev nD) : (∑ d : Dev nD, hits d c all7) = 7 := by revert c; decide
theorem hitsAt_sum (c : Dev nD) (s : Fin 7) : (∑ d : Dev nD, hitsAt d c s all7) = 1 := by revert c s; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => (show O₀ d (barCell c) PUnit.unit = hits d c all7 from BO_bar d c all7), hits_sum]
theorem launch_recv (c : Dev nD) (s : Fin 7) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => (show O₀ d (recvCell c s) PUnit.unit = N * hitsAt d c s all7 from BO_recv d c s all7), ← Finset.mul_sum, hitsAt_sum, Nat.mul_one]

theorem recvLoc_injective : Function.Injective fun s : Fin 7 => (SemLoc.dma (recvS s) : SemLoc sig) := by decide

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ((BI.bigSep_subset (t := Finset.univ.image fun s : Fin 7 => (SemLoc.dma (recvS s) : SemLoc sig)) fun x hx => ?_).trans ?_)
  · obtain ⟨s, -, rfl⟩ := Finset.mem_image.mp hx
    exact Finset.mem_erase.mpr ⟨(fun h => by cases h), Finset.mem_univ _⟩
  · rw [bigSep_image_of_injOn recvLoc_injective.injOn]
    exact Entails.of_eq (bigSep_congr fun s _ => by rw [← launch_recv])

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hp, Hr, HzB, HzS, HzV⟩
  isplitl [HzB]; · iexact HzB
  isplitl [HzS HzV]
  · isplitl [HzS] <;> iassumption
  isplitl [Hp]; · iexists _; iexact Hp
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, the eight devices' program terminates in every weakly
    fair execution; at the end each device's arrays hold `finalA`, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.K

end
-- ==== Proof.Frames.lean ====
/-
From the run to the claims about it: the arguments end unchanged and every counter at zero, for the kernel at
machine floats and at extended reals, and for the reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.K

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- An argument's array ends as it began: no run writes an input's array. -/
theorem finalA_arg (c : Dev nD) (w : Fin 5) (hin : (cfg0.win w).isOut = false) :
    finalA m ρ c w = (dats (F := F) m ρ 0 c).A w :=
  (dats (F := F) m ρ 0 c).arrAt_in w hin _

/-- What a run's end says of the four argument arrays of a device. -/
theorem args_kept {r : _ × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c 0).trans (finalA_arg m ρ c 0 rfl), (h c 1).trans (finalA_arg m ρ c 1 rfl),
    (h c 2).trans (finalA_arg m ρ c 2 rfl), (h c 3).trans (finalA_arg m ρ c 3 rfl)⟩

/-- Over any floats the kernel runs, keeps its arguments and leaves every counter at zero. -/
theorem frame_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m ρ h.1, h.2⟩) (run_main m ρ)

/-- At extended reals the kernel runs, keeps its arguments and leaves every counter at zero. -/
theorem frame_kernelIdeal : Cert.quiescent_KernelIdeal := fun m ρ _ => frame_any (F := Ideal) m ρ

/-- The two printed programs have the same body table before the pipeline is put on it. -/
theorem bodies_same : Cert.Kernel.defs₀ (F := F) = Cert.KernelIdeal.defs₀ (F := F) := by
  unfold Cert.Kernel.defs₀ Cert.KernelIdeal.defs₀
  congr 1
  funext l x
  match l, x with
  | 0, (t, s) => rfl

/-- The two printed programs have the same body table. -/
theorem defs_same : Cert.Kernel.defs (F := F) = Cert.KernelIdeal.defs (F := F) :=
  congrArg (Pipeline.defs (pcfgs (F := F))) bodies_same

/-- At machine floats the kernel runs, keeps its arguments and leaves every counter at zero: its text is the same. -/
theorem frame_kernel : Cert.quiescent_Kernel := by
  intro m ρ _
  rw [defs_same]
  exact frame_any (F := Bits) m ρ

/-- The reference runs, keeps its arguments and leaves every counter at zero (it has none). -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The shape facts that the precondition's text states, at the kernel's argument types. -/
instance preKernelFacts : Cert.Pre_routed_KernelIdeal.Facts where
  bcast_S_S512x2 := by decide
  bcast_S_S512x256 := by decide
  bcast_S_S256x32 := by decide
  slices_S512x2_S512x1_0_0 := by decide
  shapeCasts_S512x1_S512 := by decide
  slices_S512x2_S512x1_0_1 := by decide

/-- The shape facts that the precondition's text states, at the reference's argument types. -/
instance preReferenceFacts : Cert.Pre_routed_ReferenceIdeal.Facts where
  bcast_S_S512x2 := by decide
  bcast_S_S512x256 := by decide
  bcast_S_S256x32 := by decide
  slices_S512x2_S512x1_0_0 := by decide
  shapeCasts_S512x1_S512 := by decide
  slices_S512x2_S512x1_0_1 := by decide

end Cert.K

end
-- ==== Proof.Spec.lean ====
/-
The layer's mathematics for one token and one output feature, over the extended reals, with no program named:
the gates, a device's share of the token's result, and the two-expert formula.
-/
module

public import Idealize.ShloMosaic.PureOps.Ideal
public import Idealize.ShloMosaic.PureOps.Ideal.Laws

@[expose] public section

noncomputable section

namespace Cert.K.Spec

open Idealize.ShloMosaic

/-- A token's score at expert `e`. -/
def score (x : Fin 256 → EReal) (W : Fin 256 → Fin 32 → EReal) (e : Fin 32) : EReal := ∑ k, x k * W k e

/-- The largest of 32 scores. -/
def top (s : Fin 32 → EReal) : EReal := Finset.univ.fold max ⊥ s

/-- A score's exponential, relative to the largest score. -/
def lift (s : Fin 32 → EReal) (e : Fin 32) : EReal := Ideal.exp (s e - top s)

/-- The softmax of 32 scores at expert `e`. -/
def prob (s : Fin 32 → EReal) (e : Fin 32) : EReal := Ideal.div (lift s e) (∑ e', lift s e')

/-- The entry that the word `w` names; `0` when `w` is not among `0 … 31` (as a signed number or not, which is the same). -/
def pick (p : Fin 32 → EReal) (w : BitVec 32) : EReal := if h : w.toNat < 32 then p ⟨w.toNat, h⟩ else 0

/-- The share of expert `e` in a token that names the experts `w0` and `w1` with gates `g0` and `g1`. -/
def share (g0 g1 : EReal) (w0 w1 : BitVec 32) (e : Fin 32) : EReal :=
  Ideal.div ((if w0.toNat = e.val then g0 else 0) + (if w1.toNat = e.val then g1 else 0)) (g0 + g1)

/-- What expert `e`, with weights `E`, adds to the token `x`. -/
def term (x : Fin 256 → EReal) (g0 g1 : EReal) (w0 w1 : BitVec 32) (E : Fin 32 → Fin 256 → EReal) (e : Fin 32) : EReal :=
  ∑ k, (x k * share g0 g1 w0 w1 e) * E e k

/-- The two-expert formula: the gates' shares of the two named experts' products, an unnamed expert's weights read as `0`. -/
def mix (x : Fin 256 → EReal) (g0 g1 : EReal) (w0 w1 : BitVec 32) (E : Fin 32 → Fin 256 → EReal) : EReal :=
  Ideal.div g0 (g0 + g1) * (∑ k, x k * pick (fun e => E e k) w0)
    + Ideal.div g1 (g0 + g1) * (∑ k, x k * pick (fun e => E e k) w1)

end Cert.K.Spec

end
-- ==== Proof.Words.lean ====
/-
Facts about 32-bit index words: when a signed word lies among the 32 experts, and the number of the expert that a
device holds at a place.
-/
module

public import proofs.«01_k».proof.Proof.Parts
public import Idealize.ShloMosaic.Lib.WordCmp

@[expose] public section

noncomputable section

namespace Cert.K

open Cert.KernelIdeal
open Idealize.ShloMosaic

/-- A choice by the equality of two words. -/
theorem select_eq {α : Type} (a b : BitVec 32) (x y : α) :
    Scalar.select (IntOp.cmpi .eq a b) x y = if a = b then x else y := by
  rw [WordCmp.cmpi_eq_eq]
  by_cases h : a = b
  · rw [if_pos h, decide_eq_true h]; rfl
  · rw [if_neg h, decide_eq_false h]; rfl

/-- A word read as a signed number lies in `[0, 31]` exactly when its bits, as a natural number, are less than 32. -/
theorem named_word (w : BitVec 32) :
    IntOp.andi (IntOp.cmpi .sge w 0#32) (IntOp.cmpi .sle w 31#32) = BitVec.ofBool (decide (w.toNat < 32)) := by
  rw [WordCmp.cmpi_sge_zero, WordCmp.cmpi_sle_eq]
  have h31 : (31#32 : BitVec 32).toInt = 31 := by decide
  rw [h31, BitVec.toInt_eq_toNat_cond]
  by_cases h : w.toNat < 32
  · have h1 : w.toNat < 2 ^ (32 - 1) := by omega
    rw [decide_eq_true h, decide_eq_true h1, decide_eq_true (by split <;> omega)]; rfl
  · rw [decide_eq_false h]
    by_cases h1 : w.toNat < 2 ^ (32 - 1)
    · rw [decide_eq_true h1, decide_eq_false (by split <;> omega)]; rfl
    · rw [decide_eq_false h1]; exact BitVec.zero_and

/-- The same with the upper end spelt `< 32`. -/
theorem named_word_lt (w : BitVec 32) :
    IntOp.andi (IntOp.cmpi .sge w 0#32) (IntOp.cmpi .slt w 32#32) = BitVec.ofBool (decide (w.toNat < 32)) := by
  rw [← named_word, WordCmp.cmpi_slt_eq, WordCmp.cmpi_sle_eq]
  have h31 : (31#32 : BitVec 32).toInt = 31 := by decide
  have h32 : (32#32 : BitVec 32).toInt = 32 := by decide
  rw [h31, h32]
  congr 3
  exact propext ⟨fun h => by omega, fun h => by omega⟩

/-- A word among the experts, read as a signed number, is its bits' natural number. -/
theorem toInt_named {w : BitVec 32} (h : w.toNat < 32) : w.toInt.toNat = w.toNat := by
  rw [BitVec.toInt_eq_toNat_cond]; split <;> omega

/-- A small number's word, read as a signed number, is the number. -/
theorem toInt_small {n : Nat} (h : n < 512) : (BitVec.ofNat 32 n).toInt.toNat = n := by
  rw [BitVec.toInt_eq_toNat_cond, BitVec.toNat_ofNat, Nat.mod_eq_of_lt (by omega)]; split <;> omega

/-- A small number's word equals a word exactly when the word's natural number is that number. -/
theorem eq_small_iff {n : Nat} (h : n < 512) (w : BitVec 32) : BitVec.ofNat 32 n = w ↔ w.toNat = n := by
  constructor
  · rintro rfl; rw [BitVec.toNat_ofNat, Nat.mod_eq_of_lt (by omega)]
  · rintro rfl; exact BitVec.eq_of_toNat_eq (by rw [BitVec.toNat_ofNat, Nat.mod_eq_of_lt w.isLt])

/-- The word of the expert at place `l` of device `c`: its number among all 32. -/
theorem expert_word (c : Fin 8) (l : Fin 4) :
    Scalar.addi (Scalar.muli (devWord c) 4#32) (BitVec.ofNat 32 l.val) = BitVec.ofNat 32 (c.val * 4 + l.val) := by
  revert c l; decide

end Cert.K

end
-- ==== Proof.Equation.lean ====
/-
The equation over the extended reals: for a token whose scores are real and which names an expert, the shares of
all 32 experts' products add up to the two-expert formula.
-/
module

public import proofs.«01_k».proof.Proof.Spec

@[expose] public section

noncomputable section

namespace Cert.K.Spec

open Idealize.ShloMosaic

/-- A sum of real numbers, read among the extended reals. -/
theorem coe_sum {n : Nat} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

/-- The quotient of two reals with a divisor that is not zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The scores of a real token under real router weights are real. -/
theorem score_real {x : Fin 256 → EReal} {W : Fin 256 → Fin 32 → EReal} (hx : ∀ k, ∃ a : ℝ, x k = a)
    (hW : ∀ k e, ∃ a : ℝ, W k e = a) (e : Fin 32) : ∃ a : ℝ, score x W e = a := by
  choose xr hxr using hx
  choose Wr hWr using hW
  refine ⟨∑ k, xr k * Wr k e, ?_⟩
  rw [coe_sum]
  exact Finset.sum_congr rfl fun k _ => by rw [hxr, hWr, EReal.coe_mul]

/-- The largest of 32 real scores is real. -/
theorem top_real {s : Fin 32 → EReal} (hs : ∀ e, ∃ a : ℝ, s e = a) : ∃ μ : ℝ, top s = μ := by
  choose sr hsr using hs
  have hlt : top s < ⊤ := (Finset.fold_max_lt ⊤).2 ⟨bot_lt_top, fun e _ => by rw [hsr]; exact EReal.coe_lt_top _⟩
  have hge : s 0 ≤ top s := (Finset.le_fold_max _).2 (Or.inr ⟨0, Finset.mem_univ _, le_refl _⟩)
  have hbot : top s ≠ ⊥ := fun h => by
    rw [h, hsr] at hge
    exact absurd hge (not_le.2 (EReal.bot_lt_coe _))
  exact ⟨(top s).toReal, (EReal.coe_toReal hlt.ne hbot).symm⟩

/-- The softmax of real scores is a positive real number at every expert. -/
theorem prob_pos {s : Fin 32 → EReal} (hs : ∀ e, ∃ a : ℝ, s e = a) (e : Fin 32) : ∃ q : ℝ, 0 < q ∧ prob s e = q := by
  obtain ⟨μ, hμ⟩ := top_real hs
  choose sr hsr using hs
  have hl : ∀ e, lift s e = (Real.exp (sr e - μ) : ℝ) := fun e => by
    unfold lift
    rw [hμ, hsr, ← EReal.coe_sub]
    rfl
  have hsum : 0 < ∑ e', Real.exp (sr e' - μ) :=
    Finset.sum_pos (fun e _ => Real.exp_pos _) Finset.univ_nonempty
  refine ⟨Real.exp (sr e - μ) / ∑ e', Real.exp (sr e' - μ), div_pos (Real.exp_pos _) hsum, ?_⟩
  unfold prob
  rw [hl, Finset.sum_congr rfl fun e' _ => hl e', ← coe_sum, div_coe _ _ hsum.ne']

/-- The gate that a word picks among positive probabilities is a real number, not negative. -/
theorem pick_nonneg {p : Fin 32 → EReal} (hp : ∀ e, ∃ q : ℝ, 0 < q ∧ p e = q) (w : BitVec 32) :
    ∃ g : ℝ, 0 ≤ g ∧ (w.toNat < 32 → 0 < g) ∧ pick p w = g := by
  unfold pick
  split
  · obtain ⟨q, hq, he⟩ := hp _
    exact ⟨q, hq.le, fun _ => hq, he⟩
  · exact ⟨0, le_refl _, fun h' => absurd h' ‹_›, rfl⟩

/-- A sum over the experts that keeps the entry of one word's expert is the entry that the word picks. -/
theorem sum_pick (p : Fin 32 → EReal) (w : BitVec 32) : (∑ e : Fin 32, if w.toNat = e.val then p e else 0) = pick p w := by
  unfold pick
  split
  · rename_i h
    rw [Finset.sum_eq_single (⟨w.toNat, h⟩ : Fin 32)]
    · exact if_pos rfl
    · intro e _ he
      exact if_neg fun h' => he (Fin.ext h'.symm)
    · exact fun h' => absurd (Finset.mem_univ _) h'
  · rename_i h
    exact Finset.sum_eq_zero fun e _ => if_neg fun (h' : w.toNat = e.val) => h (by rw [h']; exact e.isLt)

/-- A real factor that is not negative comes out of a sum of extended reals. -/
theorem mul_sum_of_nonneg {n : Nat} {a : ℝ} (ha : 0 ≤ a) (f : Fin n → EReal) : ∑ i, (a : EReal) * f i = a * ∑ i, f i := by
  induction n with
  | zero => simp
  | succ n ih =>
    rw [Fin.sum_univ_succ, Fin.sum_univ_succ, ih,
      EReal.left_distrib_of_nonneg_of_ne_top (EReal.coe_nonneg.2 ha) (EReal.coe_ne_top a)]

/-- The share of an expert, when the gates are real numbers with a positive sum: the named gates' quotients, added. -/
theorem share_coe {a b : ℝ} (hab : 0 < a + b) (w0 w1 : BitVec 32) (e : Fin 32) :
    share (a : EReal) (b : EReal) w0 w1 e
      = (((if w0.toNat = e.val then a / (a + b) else 0) + (if w1.toNat = e.val then b / (a + b) else 0) : ℝ) : EReal) := by
  have h0 : (if w0.toNat = e.val then (a : EReal) else 0) = ((if w0.toNat = e.val then a else 0 : ℝ) : EReal) := by
    split <;> rfl
  have h1 : (if w1.toNat = e.val then (b : EReal) else 0) = ((if w1.toNat = e.val then b else 0 : ℝ) : EReal) := by
    split <;> rfl
  unfold share
  rw [h0, h1, ← EReal.coe_add, ← EReal.coe_add, div_coe _ _ hab.ne', add_div]
  congr 2 <;> split <;> simp

/-- What an expert adds: its two named shares of its product with the token. -/
theorem term_eq {a b : ℝ} (ha : 0 ≤ a) (hb : 0 ≤ b) (hab : 0 < a + b) (x : Fin 256 → EReal) (w0 w1 : BitVec 32)
    (E : Fin 32 → Fin 256 → EReal) (e : Fin 32) :
    term x a b w0 w1 E e
      = (if w0.toNat = e.val then ((a / (a + b) : ℝ) : EReal) * ∑ k, x k * E e k else 0)
        + (if w1.toNat = e.val then ((b / (a + b) : ℝ) : EReal) * ∑ k, x k * E e k else 0) := by
  have hA : 0 ≤ a / (a + b) := div_nonneg ha hab.le
  have hB : 0 ≤ b / (a + b) := div_nonneg hb hab.le
  have h0 : (0 : ℝ) ≤ if w0.toNat = e.val then a / (a + b) else 0 := by split <;> simp [hA]
  have h1 : (0 : ℝ) ≤ if w1.toNat = e.val then b / (a + b) else 0 := by split <;> simp [hB]
  unfold term
  rw [share_coe hab, Finset.sum_congr rfl fun k _ => by rw [mul_comm (x k), mul_assoc],
    mul_sum_of_nonneg (add_nonneg h0 h1), EReal.coe_add,
    EReal.right_distrib_of_nonneg (EReal.coe_nonneg.2 h0) (EReal.coe_nonneg.2 h1)]
  congr 1 <;> split <;> simp

/-- A named expert's share of its product, with an unnamed expert's weights read as zero. -/
theorem pick_sum (a : EReal) (x : Fin 256 → EReal) (E : Fin 32 → Fin 256 → EReal) (w : BitVec 32) :
    pick (fun e => a * ∑ k, x k * E e k) w = a * ∑ k, x k * pick (fun e => E e k) w := by
  unfold pick
  split
  · rfl
  · simp

/-- THE EQUATION: with gates that are real, not negative and not both zero, the 32 experts' terms add up to the
    two-expert formula, whatever the experts' weights. -/
theorem sum_terms {a b : ℝ} (ha : 0 ≤ a) (hb : 0 ≤ b) (hab : 0 < a + b) (x : Fin 256 → EReal) (w0 w1 : BitVec 32)
    (E : Fin 32 → Fin 256 → EReal) : ∑ e, term x a b w0 w1 E e = mix x a b w0 w1 E := by
  rw [Finset.sum_congr rfl fun e _ => term_eq ha hb hab x w0 w1 E e, Finset.sum_add_distrib,
    sum_pick (fun e => ((a / (a + b) : ℝ) : EReal) * ∑ k, x k * E e k) w0,
    sum_pick (fun e => ((b / (a + b) : ℝ) : EReal) * ∑ k, x k * E e k) w1, pick_sum, pick_sum]
  unfold mix
  rw [← EReal.coe_add, div_coe _ _ hab.ne', div_coe _ _ hab.ne']

/-- A token's gates at the experts that it names. -/
abbrev gate (x : Fin 256 → EReal) (W : Fin 256 → Fin 32 → EReal) (w : BitVec 32) : EReal := pick (prob (score x W)) w

/-- The equation with the softmax's own gates: a real token, real router weights, and one named expert suffice. -/
theorem sum_terms_gate {x : Fin 256 → EReal} {W : Fin 256 → Fin 32 → EReal} (hx : ∀ k, ∃ a : ℝ, x k = a)
    (hW : ∀ k e, ∃ a : ℝ, W k e = a) {w0 w1 : BitVec 32} (hw : w0.toNat < 32 ∨ w1.toNat < 32)
    (E : Fin 32 → Fin 256 → EReal) :
    ∑ e, term x (gate x W w0) (gate x W w1) w0 w1 E e = mix x (gate x W w0) (gate x W w1) w0 w1 E := by
  have hp := prob_pos (score_real hx hW)
  obtain ⟨a, ha, ha', h0⟩ := pick_nonneg hp w0
  obtain ⟨b, hb, hb', h1⟩ := pick_nonneg hp w1
  have hab : 0 < a + b := by
    rcases hw with h | h
    · exact add_pos_of_pos_of_nonneg (ha' h) hb
    · exact add_pos_of_nonneg_of_pos ha (hb' h)
  unfold gate
  rw [h0, h1]
  exact sum_terms ha hb hab x w0 w1 E

end Cert.K.Spec

end
-- ==== Proof.KernelValue.lean ====
/-
What one device contributes to a token's result, read at an index: the terms of its four experts.
-/
module

public import proofs.«01_k».proof.Proof.Spec
public import proofs.«01_k».proof.Proof.Words
public import proofs.«01_k».proof.Proof.Equation
public import Idealize.ShloMosaic.Lib.Pointwise

@[expose] public section

set_option maxRecDepth 16384

noncomputable section

namespace Cert.K

open Cert.KernelIdeal Cert.KernelIdeal.Gen
open Idealize.ShloMosaic

/-- The softmax of token `r`, as the kernel computes it. -/
theorem prob_apply (X : Vec Ideal S512x256 .f32) (W : Vec Ideal S256x32 .f32) (r : Fin 512) (e : Fin 32) :
    k0_pay2 X W (ix2 r e) = Spec.prob (Spec.score (fun k => X (ix2 r k)) (fun k e => W (ix2 k e))) e := by
  pointwise [k0_pay2, k0_pay1]; rfl

/-- A one-hot sum over the experts picks the word's entry. -/
theorem onehot (p : Fin 32 → EReal) (w : BitVec 32) :
    (∑ e : Fin 32, Scalar.select (IntOp.cmpi .eq (BitVec.ofNat 32 e.val) w) (p e) 0) = Spec.pick p w := by
  rw [← Spec.sum_pick]
  refine Finset.sum_congr rfl fun e _ => ?_
  rw [select_eq, if_congr (eq_small_iff (by omega) w) rfl rfl]

/-- The first gate of token `r`. -/
theorem gate0_apply (X : Vec Ideal S512x256 .f32) (W : Vec Ideal S256x32 .f32) (R : Vec Ideal S512x2 .i32) (r : Fin 512) :
    k0_pay6 X W R (ix2 r 0) = Spec.gate (fun k => X (ix2 r k)) (fun k e => W (ix2 k e)) (R (ix2 r 0)) := by
  trans ∑ x, Scalar.select (IntOp.cmpi .eq (BitVec.ofNat 32 x.val) (R (ix2 r 0))) (k0_pay2 X W (ix2 r x)) 0
  · pointwise [k0_pay6, k0_pay4, k0_pay3]
  · rw [onehot]
    exact congrArg (fun p => Spec.pick p _) (funext fun e => prob_apply X W r e)

/-- The second gate of token `r`. -/
theorem gate1_apply (X : Vec Ideal S512x256 .f32) (W : Vec Ideal S256x32 .f32) (R : Vec Ideal S512x2 .i32) (r : Fin 512) :
    gate1 X W R (ix2 r 0) = Spec.gate (fun k => X (ix2 r k)) (fun k e => W (ix2 k e)) (R (ix2 r 1)) := by
  unfold gate1
  trans ∑ x, Scalar.select (IntOp.cmpi .eq (BitVec.ofNat 32 x.val) (R (ix2 r 1))) (k0_pay2 X W (ix2 r x)) 0
  · pointwise [k0_pay9, k0_pay7, k0_pay8, k0_pay5, k0_pay3]
  · rw [onehot]
    exact congrArg (fun p => Spec.pick p _) (funext fun e => prob_apply X W r e)

/-- One expert's products as the kernel writes them, from both gates' values and the token's two words. -/
theorem term_read (x : Fin 256 → EReal) (g0 g1 : EReal) (w0 w1 : BitVec 32) (E : Fin 32 → Fin 256 → EReal) (e : Fin 32)
    {v : BitVec 32} (hv : v = BitVec.ofNat 32 e.val) {y : Fin 256 → EReal} (hy : ∀ k, y k = E e k) :
    (∑ k, x k * Ideal.div (Scalar.select (IntOp.cmpi .eq w0 v) g0 0 + Scalar.select (IntOp.cmpi .eq w1 v) g1 0) (g0 + g1)
      * y k) = Spec.term x g0 g1 w0 w1 E e := by
  subst hv
  unfold Spec.term Spec.share
  refine Finset.sum_congr rfl fun k _ => ?_
  rw [select_eq, select_eq, hy, if_congr (eq_comm.trans (eq_small_iff (by omega) w0)) rfl rfl,
    if_congr (eq_comm.trans (eq_small_iff (by omega) w1)) rfl rfl]

/-- The number of the expert that device `c` holds at place `l`. -/
def held (c : Fin 8) (l : Fin 4) : Fin 32 := ⟨c.val * 4 + l.val, by omega⟩

/-- DEVICE `c`'S CONTRIBUTION TO TOKEN `r`, when its loaded experts are its four of all 32: their four terms. -/
theorem partVal_apply (c : Fin 8) (X : Vec Ideal S512x256 .f32) (W : Vec Ideal S256x32 .f32) (R : Vec Ideal S512x2 .i32)
    (L : Fin 4 → Vec Ideal S1x256x512 .f32) (E : Fin 32 → Fin 256 → Fin 512 → EReal)
    (hE : ∀ l k o, L l (ix3 0 k o) = E (held c l) k o) (r o : Fin 512) :
    partVal (devWord c) X W R (L 0) (L 1) (L 2) (L 3) (ix2 r o)
      = ∑ l : Fin 4, Spec.term (fun k => X (ix2 r k))
          (Spec.gate (fun k => X (ix2 r k)) (fun k e => W (ix2 k e)) (R (ix2 r 0)))
          (Spec.gate (fun k => X (ix2 r k)) (fun k e => W (ix2 k e)) (R (ix2 r 1)))
          (R (ix2 r 0)) (R (ix2 r 1)) (fun e k => E e k o) (held c l) := by
  have h0 := gate0_apply X W R r
  have h1 := gate1_apply X W R r
  rw [Fin.sum_univ_four, ← h0, ← h1]
  rw [← term_read _ _ _ _ _ _ (held c 0) (expert_word c 0) (fun k => hE 0 k o),
    ← term_read _ _ _ _ _ _ (held c 1) (expert_word c 1) (fun k => hE 1 k o),
    ← term_read _ _ _ _ _ _ (held c 2) (expert_word c 2) (fun k => hE 2 k o),
    ← term_read _ _ _ _ _ _ (held c 3) (expert_word c 3) (fun k => hE 3 k o)]
  unfold partVal gateSum gate1
  pointwise [k0_pay12, k0_pay11, k0_pay10, k0_pay4, k0_pay5, k0_pay1, k0_pay3]

end Cert.K

end
-- ==== Proof.Result.lean ====
/-
What the run leaves in a device's result array, read at an index: the contributions of all eight devices to one of
the rows that belong to the device, added; and what a staging buffer holds, read off the launch's memory.
-/
module

public import proofs.«01_k».proof.Proof.Frames
public import proofs.«01_k».proof.Proof.KernelValue

@[expose] public section

set_option maxRecDepth 16384

noncomputable section

namespace Cert.K

open Cert.KernelIdeal Cert.KernelIdeal.Gen
open Idealize.ShloMosaic Idealize.ShloMosaic.TcCoe Idealize.SL.Sem

variable {F : FTy → Type} [FloatOps F]

section AnyFloats

variable (m : (ℓ : Loc nD τ sig) → Buf (Elt F) ℓ) (ρ : Dev nD → PrngReg)

/-! ## The staging buffers hold the arguments -/

theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem rwstg_eq (c : Dev nD) : rwstg m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem ristg_eq (c : Dev nD) : ristg m ρ c = m ((c.tc : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

theorem ewstg_eq (c : Dev nD) : ewstg m ρ c = m ((c.tc : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) _

/-- The result array's one block is the whole array: at the end it holds what the body left. -/
theorem finalA_out (c : Dev nD) : finalA m ρ c 4 = outAt m ρ c := by
  have ho : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 :=
    funext fun a => by fin_cases a <;> decide
  rw [Memref.read_access_unit_zero (Elt F) main_v1 hz (fun a => by fin_cases a <;> decide)] at ho
  exact ho

/-! ## The loads, at an index -/

/-- The device's own rows, as loaded. -/
theorem ownVec_apply (c : Dev nD) (r : Fin 64) (o : Fin 512) : ownVec m ρ c (ix2 r o) = part m ρ c (rowIx c r o) := by
  show part m ρ c ((rowR c).emb (ix2 r o)) = _
  refine congrArg (part m ρ c) (funext fun a => Fin.ext ?_)
  match a with
  | ⟨0, _⟩ => show 64 * c.val + 1 * r.val = _; rw [Nat.one_mul]; rfl
  | ⟨1, _⟩ => show 0 + 1 * o.val = _; rw [Nat.one_mul, Nat.zero_add]; rfl

/-- A received block of rows, as loaded: the sender's contribution to the rows that belong to the receiver. -/
theorem slotVec_apply (c : Dev nD) (s : Fin 7) (r : Fin 64) (o : Fin 512) :
    slotVec m ρ c s (ix3 0 r o) = part m ρ (nx c s) (rowIx c r o) := by
  show landed m ρ c ((slotR s).emb (ix3 0 r o)) = landed m ρ c (slotIx s r o)
  refine congrArg (landed m ρ c) (funext fun a => Fin.ext ?_)
  match a with
  | ⟨0, _⟩ => show s.val + 1 * 0 = _; rfl
  | ⟨1, _⟩ => show 0 + 1 * r.val = _; rw [Nat.one_mul, Nat.zero_add]; rfl
  | ⟨2, _⟩ => show 0 + 1 * o.val = _; rw [Nat.one_mul, Nat.zero_add]; rfl

/-- Expert `l` of a device, as loaded: entry `l` of the device's block of experts. -/
theorem expert_apply (c : Dev nD) (l : Fin 4) (k : Fin 256) (o : Fin 512) :
    expert m ρ c l (ix3 0 k o) = m ((c.tc : Thread nD τ).loc main_arg3) (ix3 l k o) := by
  rw [← ewstg_eq m ρ c]
  show ewstg m ρ c ((Rect.unit (s := S4x256x512) ![l.val, 0, 0] S1x256x512.size (exp_inb l)).emb (ix3 0 k o)) = _
  refine congrArg (ewstg m ρ c) (funext fun a => Fin.ext ?_)
  match a with
  | ⟨0, _⟩ => show l.val + 1 * 0 = _; rfl
  | ⟨1, _⟩ => show 0 + 1 * k.val = _; rw [Nat.one_mul, Nat.zero_add]; rfl
  | ⟨2, _⟩ => show 0 + 1 * o.val = _; rw [Nat.one_mul, Nat.zero_add]; rfl

/-- Row `r` of device `b`'s block, as a pair. -/
theorem rowIx_eq (b : Fin 8) (r : Fin 64) (o : Fin 512) : rowIx b r o = ix2 (⟨64 * b.val + r.val, by omega⟩ : Fin 512) o :=
  funext fun a => match a with
    | ⟨0, _⟩ => rfl
    | ⟨1, _⟩ => rfl

end AnyFloats

variable (m : (ℓ : Loc nD τ sig) → Buf (Elt Ideal) ℓ) (ρ : Dev nD → PrngReg)

/-- Eight blocks of rows added, at an index. -/
theorem sumVal_apply (own : Vec Ideal S64x512 .f32) (q : Fin 7 → Vec Ideal S1x64x512 .f32) (r : Fin 64) (o : Fin 512) :
    sumVal own q (ix2 r o) = own (ix2 r o) + ∑ s : Fin 7, q s (ix3 0 r o) := by
  trans own (ix2 r o) + q 6 (ix3 0 r o) + q 5 (ix3 0 r o) + q 4 (ix3 0 r o) + q 3 (ix3 0 r o) + q 2 (ix3 0 r o)
    + q 1 (ix3 0 r o) + q 0 (ix3 0 r o)
  · pointwise [sumVal, k0_pay13, k0_pay14, k0_pay15]
  · rw [Fin.sum_univ_seven]; ac_rfl

/-- THE RESULT OF DEVICE `c` at row `r` of its block: the contributions of the eight devices, added. -/
theorem outAt_apply (c : Dev nD) (r : Fin 64) (o : Fin 512) :
    (show S64x512.Idx → EReal from outAt m ρ c) (ix2 r o)
      = ∑ d : Fin 8, (show S512x512.Idx → EReal from part m ρ d) (rowIx c r o) := by
  show sumVal (ownVec m ρ c) (slotVec m ρ c) (ix2 r o) = _
  rw [sumVal_apply, ownVec_apply, Finset.sum_congr rfl fun s _ => slotVec_apply m ρ c s r o, devs_eq c,
    Finset.sum_insert (by revert c; decide), Finset.sum_map]
  rfl

end Cert.K

end
-- ==== Proof.Gathers.lean ====
/-
The reference's gathers read at an index: the gate of a token at the expert that a word names, and that expert's
weights. A word that names no expert reads nothing: the reference's fill value 0 stands in its place.
-/
module

public import proofs.«01_k».proof.Proof.Spec
public import proofs.«01_k».proof.Proof.Words
public import proofs.«01_k».proof.Proof.Gen.ReferenceIdeal
public import Idealize.ShloMosaic.Lib.Pointwise

@[expose] public section

noncomputable section

namespace Cert.K

open Cert.ReferenceIdeal Cert.ReferenceIdeal.Gen
open Idealize.ShloMosaic

/-- The gates' gather: one entry of a 512 × 32 array for each token. -/
abbrev gatesDims : GatherDims S512x32 S512x2 S512 := gather_S512x32_S512x2_S512_n_01_n_n_01_1_11

/-- The experts' gather: one expert's weights for each token. -/
abbrev expertsDims : GatherDims S32x256x512 S512x1 S512x256x512 :=
  gather_S32x256x512_S512x1_S512x256x512_12_0_n_n_0_1_1256512

/-- The gates' gather at token `r`, when the start index is `(a, b)`: the operand's entry there. -/
theorem gather_gates_apply {α : Type} (P : S512x32.Idx → α) (idx : IVec S512x2 32) (r : Fin 512) {a : Fin 512} {b : Fin 32}
    (h0 : (idx (ix2 r 0)).toInt.toNat = a.val) (h1 : (idx (ix2 r 1)).toInt.toNat = b.val) :
    Host.gather gatesDims P idx (ix1 r) = P (ix2 a b) := by
  have hsi : ∀ c : Fin 2, gatesDims.siIdx (ix1 r) c = ix2 r c := by
    intro c; funext e; refine Fin.ext ?_
    match e with
    | ⟨0, _⟩ => rfl
    | ⟨1, _⟩ => rfl
  unfold Host.gather
  congr 1
  funext x
  refine Fin.ext ?_
  show GatherDims.start gatesDims (ix1 r) idx x + GatherDims.batchCoord gatesDims (ix1 r) x + GatherDims.offCoord gatesDims (ix1 r) x = _
  have hx : x = (0 : Fin 2) ∨ x = (1 : Fin 2) := by
    match x with
    | ⟨0, _⟩ => exact Or.inl rfl
    | ⟨1, _⟩ => exact Or.inr rfl
  rcases hx with rfl | rfl
  · rw [GatherDims.batchCoord_eq_zero _ _ _ List.not_mem_nil, GatherDims.offCoord_eq_zero _ _ _ (by decide)]
    unfold GatherDims.start
    rw [dif_pos (by decide)]
    show min (idx (GatherDims.siIdx gatesDims (ix1 r) (0 : Fin 2))).toInt.toNat 511 + 0 + 0 = a.val
    rw [hsi, h0]; omega
  · rw [GatherDims.batchCoord_eq_zero _ _ _ List.not_mem_nil, GatherDims.offCoord_eq_zero _ _ _ (by decide)]
    unfold GatherDims.start
    rw [dif_pos (by decide)]
    show min (idx (GatherDims.siIdx gatesDims (ix1 r) (1 : Fin 2))).toInt.toNat 31 + 0 + 0 = b.val
    rw [hsi, h1]; omega

/-- The experts' gather at token `r`, when the start index is expert `a`: that expert's weights. -/
theorem gather_experts_apply {α : Type} (E : S32x256x512.Idx → α) (idx : IVec S512x1 32) (r : Fin 512) (k : Fin 256)
    (o : Fin 512) {a : Fin 32} (h0 : (idx (ix2 r 0)).toInt.toNat = a.val) :
    Host.gather expertsDims E idx (ix3 r k o) = E (ix3 a k o) := by
  have hsi : ∀ c : Fin 1, expertsDims.siIdx (ix3 r k o) c = ix2 r c := by
    intro c; funext e; refine Fin.ext ?_
    match e with
    | ⟨0, _⟩ => rfl
    | ⟨1, _⟩ => rfl
  unfold Host.gather
  congr 1
  funext x
  refine Fin.ext ?_
  show GatherDims.start expertsDims (ix3 r k o) idx x + GatherDims.batchCoord expertsDims (ix3 r k o) x
    + GatherDims.offCoord expertsDims (ix3 r k o) x = _
  have hx : x = (0 : Fin 3) ∨ x = (1 : Fin 3) ∨ x = (2 : Fin 3) := by
    match x with
    | ⟨0, _⟩ => exact Or.inl rfl
    | ⟨1, _⟩ => exact Or.inr (Or.inl rfl)
    | ⟨2, _⟩ => exact Or.inr (Or.inr rfl)
  rcases hx with rfl | rfl | rfl
  · rw [GatherDims.batchCoord_eq_zero _ _ _ List.not_mem_nil, GatherDims.offCoord_eq_zero _ _ _ (by decide)]
    unfold GatherDims.start
    rw [dif_pos (by decide)]
    show min (idx (GatherDims.siIdx expertsDims (ix3 r k o) (0 : Fin 1))).toInt.toNat 31 + 0 + 0 = a.val
    rw [hsi, h0]; omega
  · rw [GatherDims.batchCoord_eq_zero _ _ _ List.not_mem_nil]
    unfold GatherDims.start
    rw [dif_neg (by decide)]
    show 0 + 0 + k.val = k.val
    omega
  · rw [GatherDims.batchCoord_eq_zero _ _ _ List.not_mem_nil]
    unfold GatherDims.start
    rw [dif_neg (by decide)]
    show 0 + 0 + o.val = o.val
    omega

/-- A token's gate as the reference reads it: gathered where the word names an expert, 0 elsewhere. -/
theorem gate_read (P : S512x32.Idx → EReal) (idx : IVec S512x2 32) (r : Fin 512) (M : BitVec 1) (w : BitVec 32)
    (p : Fin 32 → EReal) (hM : M = BitVec.ofBool (decide (w.toNat < 32))) (h0 : (idx (ix2 r 0)).toInt.toNat = r.val)
    (h1 : idx (ix2 r 1) = w) (hP : ∀ e, P (ix2 r e) = p e) :
    Scalar.select M (Host.gather gatesDims P idx (ix1 r)) 0 = Spec.pick p w := by
  subst hM
  unfold Spec.pick
  by_cases h : w.toNat < 32
  · rw [dif_pos h, decide_eq_true h, ← hP,
      gather_gates_apply P idx r (a := r) (b := ⟨w.toNat, h⟩) h0 (by rw [h1]; exact toInt_named h)]
    rfl
  · rw [dif_neg h, decide_eq_false h]; rfl

/-- A product with an expert's weight as the reference reads it: the named expert's, or 0. -/
theorem expert_read (E : S32x256x512.Idx → EReal) (idx : IVec S512x1 32) (r : Fin 512) (k : Fin 256) (o : Fin 512)
    (M : BitVec 1) (w : BitVec 32) (x : EReal) (hM : M = BitVec.ofBool (decide (w.toNat < 32))) (h0 : idx (ix2 r 0) = w) :
    Scalar.select M
        (x * Host.gather expertsDims E idx (ix3 r k o)) 0
      = x * Spec.pick (fun e => E (ix3 e k o)) w := by
  subst hM
  unfold Spec.pick
  by_cases h : w.toNat < 32
  · rw [dif_pos h, decide_eq_true h,
      gather_experts_apply E idx r k o (a := ⟨w.toNat, h⟩) (by rw [h0]; exact toInt_named h)]
    rfl
  · rw [dif_neg h, decide_eq_false h, mul_zero]; rfl

/-- The reference's range check of a gate's two start indices, the token's number and the word: it holds exactly when
    the word names an expert. -/
theorem gate_mask (r : Fin 512) (w : BitVec 32) (l : Fin 2 → BitVec 32) (h0 : l 0 = 511#32) (h1 : l 1 = 31#32) :
    Finset.fold IntOp.andi (1#1) (fun x : Fin 2 =>
        IntOp.andi (IntOp.cmpi .sge (if h : x.val < 1 then BitVec.ofNat 32 r.val else w) 0#32)
          (IntOp.cmpi .sle (if h : x.val < 1 then BitVec.ofNat 32 r.val else w) (l x))) Finset.univ
      = BitVec.ofBool (decide (w.toNat < 32)) := by
  have hr : IntOp.andi (IntOp.cmpi .sge (BitVec.ofNat 32 r.val) 0#32) (IntOp.cmpi .sle (BitVec.ofNat 32 r.val) 511#32)
      = 1#1 := by
    revert r; decide +kernel
  rw [show (Finset.univ : Finset (Fin 2)) = {0, 1} from rfl, Finset.fold_insert (by decide), Finset.fold_singleton,
    dif_pos (by decide), dif_neg (by decide), h0, h1, hr, named_word]
  cases decide (w.toNat < 32) <;> rfl

/-- The reference's range check of an expert's start index. -/
theorem expert_mask (w : BitVec 32) :
    Finset.fold IntOp.andi (1#1)
        (fun _ : Fin 1 => IntOp.andi (IntOp.cmpi .sge w 0#32) (IntOp.cmpi .sle w 31#32)) Finset.univ
      = BitVec.ofBool (decide (w.toNat < 32)) := by
  rw [show (Finset.univ : Finset (Fin 1)) = {0} from rfl, Finset.fold_singleton, named_word]
  cases decide (w.toNat < 32) <;> rfl

end Cert.K

end
-- ==== Proof.RefValue.lean ====
/-
The reference's result at an index: the two-expert formula.
-/
module

public import proofs.«01_k».proof.Proof.Gathers
public import proofs.«01_k».proof.Proof.Equation
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.K

open Cert.ReferenceIdeal Cert.ReferenceIdeal.Gen Cert.ReferenceIdeal.Value
open Idealize.ShloMosaic Idealize.SL.Sem Idealize.ShloMosaic.TcCoe

/-- THE REFERENCE AT TOKEN `r`, COLUMN `o`. -/
theorem reference_apply (m : (ℓ : Loc nD τ sig) → Buf (Elt Ideal) ℓ) (c : Dev nD)
    (X : S512x256.Idx → EReal) (W : S256x32.Idx → EReal) (R : S512x2.Idx → BitVec 32) (E : S32x256x512.Idx → EReal)
    (hX : X = m ((c.tc : Thread nD τ).loc main_arg0)) (hW : W = m ((c.tc : Thread nD τ).loc main_arg1)) (hR : R = m ((c.tc : Thread nD τ).loc main_arg2))
    (hE : E = m ((c.tc : Thread nD τ).loc main_arg3)) (r o : Fin 512) :
    (show S512x512.Idx → EReal from res_main_v76 m c) (ix2 r o)
      = Spec.mix (fun k => X (ix2 r k))
          (Spec.gate (fun k => X (ix2 r k)) (fun k e => W (ix2 k e)) (R (ix2 r 0)))
          (Spec.gate (fun k => X (ix2 r k)) (fun k e => W (ix2 k e)) (R (ix2 r 1)))
          (R (ix2 r 0)) (R (ix2 r 1)) (fun e k => E (ix3 e k o)) := by
  show res_main_v76 m c (ix2 r o) = _
  unfold res_main_v76
  clean_types
  pointwise
  have hP : ∀ w, Spec.gate (fun k => X (ix2 r k)) (fun k e => W (ix2 k e)) w
      = Spec.pick (Spec.prob (Spec.score (fun k => X (ix2 r k)) (fun k e => W (ix2 k e)))) w := fun _ => rfl
  rw [hP, hP]
  rw [gate_read _ _ r _ (R (ix2 r 0)) (Spec.prob (Spec.score (fun k => X (ix2 r k)) (fun k e => W (ix2 k e))))
    (by rw [gate_mask r _ (fun x => lit0 (S2.rowMajor (ix1 x))) rfl rfl, hR]) (by pointwise; exact toInt_small r.isLt)
    (by rw [hR]; pointwise) (by intro e; rw [hX, hW]; pointwise; rfl)]
  rw [gate_read _ _ r _ (R (ix2 r 1)) (Spec.prob (Spec.score (fun k => X (ix2 r k)) (fun k e => W (ix2 k e))))
    (by rw [gate_mask r _ (fun x => lit1 (S2.rowMajor (ix1 x))) rfl rfl, hR]) (by pointwise; exact toInt_small r.isLt)
    (by rw [hR]; pointwise) (by intro e; rw [hX, hW]; pointwise; rfl)]
  unfold Spec.mix
  congr 2
  · refine Finset.sum_congr rfl fun k _ => ?_
    rw [expert_read _ _ r k o _ (R (ix2 r 0)) _ (by rw [expert_mask, hR]) (by rw [hR]; pointwise), hX, hE]
  · refine Finset.sum_congr rfl fun k _ => ?_
    rw [expert_read _ _ r k o _ (R (ix2 r 1)) _ (by rw [expert_mask, hR]) (by rw [hR]; pointwise), hX, hE]

end Cert.K

end
-- ==== Proof.Precondition.lean ====
/-
What the precondition says of a device's arguments, entry by entry: tokens and router weights are real numbers, and
each token names an expert.
-/
module

public import proofs.«01_k».proof.Proof.Frames
public import proofs.«01_k».proof.Proof.Words
public import Idealize.ShloMosaic.Lib.Pointwise

@[expose] public section

set_option maxRecDepth 16384

noncomputable section

namespace Cert.K

open Cert.KernelIdeal Cert.KernelIdeal.Gen
open Idealize.ShloMosaic Idealize.ShloMosaic.TcCoe Idealize.SL.Sem

/-- A number whose absolute value lies below plus infinity is real. -/
theorem real_of_abs_lt {x : EReal} (h : Ideal.cmp .olt (max x (-x)) (Ideal.ofBits .f32 0x7F800000#32) = 1#1) :
    ∃ a : ℝ, x = a := by
  have htop : Ideal.ofBits .f32 0x7F800000#32 = ⊤ := by simp [Ideal.ofBits, Ideal.ieee]
  rw [htop] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  obtain ⟨h1, h2⟩ := max_lt_iff.1 hlt
  refine ⟨x.toReal, (EReal.coe_toReal h1.ne fun hb => ?_).symm⟩
  rw [hb, EReal.neg_bot] at h2
  exact lt_irrefl _ h2

/-- The precondition of a device's arguments, decoded. -/
theorem pre_read {m : (ℓ : Loc nD τ sig) → Buf (Elt Ideal) ℓ} (h : Cert.Pre_KernelIdeal_routed_KernelIdeal m) (c : Dev nD)
    (X : S512x256.Idx → EReal) (W : S256x32.Idx → EReal) (R : S512x2.Idx → BitVec 32)
    (hX : X = m ((c.tc : Thread nD τ).loc main_arg0)) (hW : W = m ((c.tc : Thread nD τ).loc main_arg1))
    (hR : R = m ((c.tc : Thread nD τ).loc main_arg2)) :
    (∀ r k, ∃ a : ℝ, X (ix2 r k) = a) ∧ (∀ k e, ∃ a : ℝ, W (ix2 k e) = a)
      ∧ ∀ r, (R (ix2 r 0)).toNat < 32 ∨ (R (ix2 r 1)).toNat < 32 := by
  obtain ⟨h0, h1, h2⟩ := h c
  refine ⟨fun r k => ?_, fun k e => ?_, fun r => ?_⟩
  · have := congrFun h0 (ix2 r k)
    unfold Cert.Pre_routed_KernelIdeal.fn at this
    rw [hX]
    exact real_of_abs_lt this
  · have := congrFun h1 (ix2 k e)
    unfold Cert.Pre_routed_KernelIdeal.fn at this
    rw [hW]
    exact real_of_abs_lt this
  · have := congrFun h2 (ix1 r)
    unfold Cert.Pre_routed_KernelIdeal.fn at this
    dsimp only at this
    have hread : IntOp.ori
        (IntOp.andi (IntOp.cmpi .sge (R (ix2 r 0)) 0#32) (IntOp.cmpi .slt (R (ix2 r 0)) 32#32))
        (IntOp.andi (IntOp.cmpi .sge (R (ix2 r 1)) 0#32) (IntOp.cmpi .slt (R (ix2 r 1)) 32#32)) = 1#1 := by
      rw [← this, hR]
      pointwise
    rw [named_word_lt, named_word_lt] at hread
    by_contra hc
    rw [not_or] at hc
    rw [decide_eq_false hc.1, decide_eq_false hc.2] at hread
    exact absurd hread (by decide)

end Cert.K

end
-- ==== Proof.Algebraic.lean ====
/-
THE VALUE CLAIM: on arguments that satisfy the precondition, each device's result array ends holding its block of
the reference's result.
-/
module

public import proofs.«01_k».proof.Proof.Result
public import proofs.«01_k».proof.Proof.RefValue
public import proofs.«01_k».proof.Proof.Precondition

@[expose] public section

set_option maxRecDepth 16384

noncomputable section

namespace Cert.K

open Cert.KernelIdeal Cert.KernelIdeal.Gen
open Idealize.ShloMosaic Idealize.ShloMosaic.TcCoe Idealize.SL.Sem

/-- The experts, counted device by device. -/
theorem sum_held (f : Fin 32 → EReal) : ∑ d : Fin 8, ∑ l : Fin 4, f (held d l) = ∑ e, f e :=
  (Fintype.sum_prod_type' fun d l => f (held d l)).symm.trans
    (Fintype.sum_equiv (finProdFinEquiv : Fin 8 × Fin 4 ≃ Fin 32) _ _ fun x =>
      congrArg f (Fin.ext (by show x.1.val * 4 + x.2.val = x.2.val + 4 * x.1.val; omega)))

/-- Entry `l` of device `d`'s block of experts is the whole array's entry `4 d + l`. -/
theorem block_experts (v : Cert.ReferenceIdeal.S32x256x512.Idx → EReal) (d : Fin 8) (l : Fin 4) (k : Fin 256) (o : Fin 512) :
    Layout.block ⟨3, ![4, 256, 512]⟩ ⟨3, ![32, 256, 512]⟩ 0 8 d v (by decide) (ix3 l k o) = v (ix3 (held d l) k o) :=
  congrArg v (funext fun a => match a with
    | ⟨0, _⟩ => rfl
    | ⟨1, _⟩ => rfl
    | ⟨2, _⟩ => rfl)

/-- Row `r` of device `c`'s block of the result is the whole array's row `64 c + r`. -/
theorem block_rows (v : Cert.ReferenceIdeal.S512x512.Idx → EReal) (c : Fin 8) (r : Fin 64) (o : Fin 512) :
    Layout.block ⟨2, ![64, 512]⟩ ⟨2, ![512, 512]⟩ 0 8 c v (by decide) (ix2 r o)
      = v (ix2 (⟨64 * c.val + r.val, by omega⟩ : Fin 512) o) :=
  congrArg v (funext fun a => match a with
    | ⟨0, _⟩ => Fin.ext (by show c.val * 64 + r.val = 64 * c.val + r.val; omega)
    | ⟨1, _⟩ => rfl)

/-- A device's result, from arguments that are the whole arrays' parts: the two-expert formula at its rows. -/
theorem result_apply (m : (ℓ : Loc nD τ sig) → Buf (Elt Ideal) ℓ) (ρ : Dev nD → PrngReg)
    (hpre : Cert.Pre_KernelIdeal_routed_KernelIdeal m)
    (X : S512x256.Idx → EReal) (W : S256x32.Idx → EReal) (R : S512x2.Idx → BitVec 32)
    (E : Cert.ReferenceIdeal.S32x256x512.Idx → EReal)
    (hX : ∀ d : Dev nD, m ((d.tc : Thread nD τ).loc main_arg0) = X) (hW : ∀ d : Dev nD, m ((d.tc : Thread nD τ).loc main_arg1) = W)
    (hR : ∀ d : Dev nD, m ((d.tc : Thread nD τ).loc main_arg2) = R)
    (hE : ∀ d : Dev nD, m ((d.tc : Thread nD τ).loc main_arg3) = Layout.block ⟨3, ![4, 256, 512]⟩ ⟨3, ![32, 256, 512]⟩ 0 8 d E)
    (c : Fin 8) (r : Fin 64) (o : Fin 512) (t : Fin 512) (ht : t = ⟨64 * c.val + r.val, by omega⟩) :
    (show S64x512.Idx → EReal from outAt m ρ c) (ix2 r o)
      = Spec.mix (fun k => X (ix2 t k))
          (Spec.gate (fun k => X (ix2 t k)) (fun k e => W (ix2 k e)) (R (ix2 t 0)))
          (Spec.gate (fun k => X (ix2 t k)) (fun k e => W (ix2 k e)) (R (ix2 t 1)))
          (R (ix2 t 0)) (R (ix2 t 1)) (fun e k => E (ix3 e k o)) := by
  obtain ⟨hx, hw, hr⟩ := pre_read hpre c X W R (hX c).symm (hW c).symm (hR c).symm
  rw [outAt_apply, ← Spec.sum_terms_gate (hx t) hw (hr t), ← sum_held]
  refine Finset.sum_congr rfl fun d _ => ?_
  show part m ρ d (rowIx c r o) = _
  rw [rowIx_eq, ← ht]
  unfold part
  rw [xstg_eq, rwstg_eq, ristg_eq, hX, hW, hR]
  exact partVal_apply d X W R (expert m ρ d) (fun e k o => E (ix3 e k o))
    (fun l k o => by rw [expert_apply, hE]; exact block_experts E d l k o) t o

/-- The kernel computes the reference's result, each device its block of rows. -/
theorem algebraic : Cert.algebraic_KernelIdeal_ReferenceIdeal_pre_routed_KernelIdeal := by
  intro m ρ m' ρ' hpre hagree
  refine ⟨Cert.ReferenceIdeal.Value.res_main_v76 m' 0, ?_, ?_⟩
  · refine (θ_run defs _ _).mono (fun r h c => ⟨((h.1 c 4).trans (finalA_out m ρ c)).trans ?_, args_kept m ρ h.1 c⟩) (run_main m ρ)
    funext j
    obtain ⟨r, o, rfl⟩ : ∃ (r : Fin 64) (o : Fin 512), j = ix2 r o := ⟨j 0, j 1, eq_ix2 j⟩
    refine (result_apply m ρ hpre _ _ _ _ (fun d => (hagree d).1) (fun d => (hagree d).2.1) (fun d => (hagree d).2.2.1)
      (fun d => (hagree d).2.2.2) c r o _ rfl).trans ?_
    refine Eq.trans ?_ (block_rows _ c r o).symm
    exact (reference_apply m' 0 _ _ _ _ rfl rfl rfl rfl _ o).symm
  · exact (θ_run Cert.ReferenceIdeal.defs _ _).mono (fun _ h => h 0) (Cert.ReferenceIdeal.Value.run (F := Ideal) m' ρ')

end Cert.K

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.K.preKernelFacts, Cert.K.preReferenceFacts,
    Cert.K.frame_kernel, Cert.K.frame_kernelIdeal, fun m ρ _ => Cert.K.frame_kernelIdeal m ρ trivial,
    Cert.K.frame_referenceIdeal, fun m ρ _ => Cert.K.frame_referenceIdeal m ρ trivial, trivial, Cert.K.algebraic⟩

end Cert.Proof

end
